-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labelled [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled [hPre_labelled : Cert.Pre_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_labelled [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_labelled [hReferenceIdeal : Cert.ReferenceIdeal.Facts] [hPre_labelled : Cert.Pre_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_the_logits [hKernelIdeal : Cert.KernelIdeal.Facts] [hReferenceIdeal : Cert.ReferenceIdeal.Facts] [hOn_the_logits : Cert.On_the_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 100]⟩ : Shape).Idx, (Cert.On_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v11) i = v0 c i)
          ∧ (∀ i : (⟨0, ![]⟩ : Shape).Idx, (Cert.On_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v12) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 100]⟩ : Shape).Idx, (Cert.On_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v47) i = v0 c i)
          ∧ (∀ i : (⟨0, ![]⟩ : Shape).Idx, (Cert.On_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v54) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ReferenceIdeal_pre_labelled [hKernelIdeal : Cert.KernelIdeal.Facts] [hReferenceIdeal : Cert.ReferenceIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_labelled : Cert.Pre_labelled.Facts) (hOn_the_logits : Cert.On_the_logits.Facts),
    quiescent_Kernel (hKernel := hKernel)
    ∧ quiescent_KernelIdeal (hKernelIdeal := hKernelIdeal)
    ∧ quiescent_KernelIdeal_pre_labelled (hKernelIdeal := hKernelIdeal) (hPre_labelled := hPre_labelled)
    ∧ quiescent_ReferenceIdeal (hReferenceIdeal := hReferenceIdeal)
    ∧ quiescent_ReferenceIdeal_pre_labelled (hReferenceIdeal := hReferenceIdeal) (hPre_labelled := hPre_labelled)
    ∧ preserves_Kernel_KernelIdeal
    ∧ algebraic_KernelIdeal_ReferenceIdeal_on_the_logits (hKernelIdeal := hKernelIdeal) (hReferenceIdeal := hReferenceIdeal) (hOn_the_logits := hOn_the_logits)
    ∧ algebraic_KernelIdeal_ReferenceIdeal_pre_labelled (hKernelIdeal := hKernelIdeal) (hReferenceIdeal := hReferenceIdeal) (hPre_labelled := hPre_labelled)
-- ==== On_the_logits.lean ====
abbrev S1024x1024x2x2 : Shape := ⟨4, ![1024, 1024, 2, 2]⟩
abbrev S1024 : Shape := ⟨1, ![1024]⟩
abbrev S32x256x32 : Shape := ⟨3, ![32, 256, 32]⟩
abbrev S4096x4096 : Shape := ⟨2, ![4096, 4096]⟩
abbrev S4096 : Shape := ⟨1, ![4096]⟩
abbrev S4096x100 : Shape := ⟨2, ![4096, 100]⟩
abbrev S100 : Shape := ⟨1, ![100]⟩
abbrev S_ : Shape := ⟨0, ![]⟩
abbrev S1024x100 : Shape := ⟨2, ![1024, 100]⟩

class Facts : Prop where
  bcast_S_S1024x100 : S_.BroadcastsInDim S1024x100 (![] : Fin 0 → Fin S1024x100.rank)

variable [Facts]

def fn {F : FTy → Type} [FloatOps F] (main_arg0 : FVec F S1024x1024x2x2 .f32) (main_arg1 : IVec S1024 32) (main_arg2 : FVec F S32x256x32 .f32) (main_arg3 : FVec F S4096x4096 .f32) (main_arg4 : FVec F S4096 .f32) (main_arg5 : FVec F S4096x100 .f32) (main_arg6 : FVec F S100 .f32) : IVec S1024x100 1 × IVec S_ 1 :=
  let main_c : IVec S_ 1 := constantI S_ 1 1#1
  let main_v0 : IVec S1024x100 1 := broadcastInDim S1024x100 ![] bcast_S_S1024x100 main_c
  let main_c_0 : IVec S_ 1 := constantI S_ 1 0#1
  (main_v0, main_c_0)
-- ==== Pre_labelled.lean ====
abbrev S1024x1024x2x2 : Shape := ⟨4, ![1024, 1024, 2, 2]⟩
abbrev S1024 : Shape := ⟨1, ![1024]⟩
abbrev S32x256x32 : Shape := ⟨3, ![32, 256, 32]⟩
abbrev S4096x4096 : Shape := ⟨2, ![4096, 4096]⟩
abbrev S4096 : Shape := ⟨1, ![4096]⟩
abbrev S4096x100 : Shape := ⟨2, ![4096, 100]⟩
abbrev S100 : Shape := ⟨1, ![100]⟩
abbrev S_ : Shape := ⟨0, ![]⟩

class Facts : Prop where
  bcast_S_S1024 : S_.BroadcastsInDim S1024 (![] : Fin 0 → Fin S1024.rank)
  bcast_S_S32x256x32 : S_.BroadcastsInDim S32x256x32 (![] : Fin 0 → Fin S32x256x32.rank)
  bcast_S_S4096x4096 : S_.BroadcastsInDim S4096x4096 (![] : Fin 0 → Fin S4096x4096.rank)
  bcast_S_S4096 : S_.BroadcastsInDim S4096 (![] : Fin 0 → Fin S4096.rank)
  bcast_S_S4096x100 : S_.BroadcastsInDim S4096x100 (![] : Fin 0 → Fin S4096x100.rank)
  bcast_S_S100 : S_.BroadcastsInDim S100 (![] : Fin 0 → Fin S100.rank)

variable [Facts]

def fn_part1 {F : FTy → Type} [FloatOps F] (main_v4 : IVec S1024 1) (main_v7 : IVec S32x256x32 1) (main_v10 : IVec S4096x4096 1) (main_v13 : IVec S4096 1) (main_v16 : IVec S4096x100 1) (main_v17 : FVec F S100 .f32) : IVec S1024 1 × IVec S32x256x32 1 × IVec S4096x4096 1 × IVec S4096 1 × IVec S4096x100 1 × IVec S100 1 :=
  let main_cst_4 : FVec F S_ .f32 := constant S_ .f32 0x7F800000#32
  let main_v18 : FVec F S100 .f32 := broadcastInDim S100 ![] bcast_S_S100 main_cst_4
  let main_v19 : IVec S100 1 := cmpf .olt main_v17 main_v18
  (main_v4, main_v7, main_v10, main_v13, main_v16, main_v19)

def fn {F : FTy → Type} [FloatOps F] (main_arg0 : FVec F S1024x1024x2x2 .f32) (main_arg1 : IVec S1024 32) (main_arg2 : FVec F S32x256x32 .f32) (main_arg3 : FVec F S4096x4096 .f32) (main_arg4 : FVec F S4096 .f32) (main_arg5 : FVec F S4096x100 .f32) (main_arg6 : FVec F S100 .f32) : IVec S1024 1 × IVec S32x256x32 1 × IVec S4096x4096 1 × IVec S4096 1 × IVec S4096x100 1 × IVec S100 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100#32
  let main_v2 : IVec S1024 32 := broadcastInDim S1024 ![] bcast_S_S1024 main_c_0
  let main_v3 : IVec S1024 1 := cmpi .slt main_arg1 main_v2
  let main_v4 : IVec S1024 1 := andi main_v1 main_v3
  let main_v5 : FVec F S32x256x32 .f32 := Host.absf main_arg2
  let main_cst : FVec F S_ .f32 := constant S_ .f32 0x7F800000#32
  let main_v6 : FVec F S32x256x32 .f32 := broadcastInDim S32x256x32 ![] bcast_S_S32x256x32 main_cst
  let main_v7 : IVec S32x256x32 1 := cmpf .olt main_v5 main_v6
  let main_v8 : FVec F S4096x4096 .f32 := Host.absf main_arg3
  let main_cst_1 : FVec F S_ .f32 := constant S_ .f32 0x7F800000#32
  let main_v9 : FVec F S4096x4096 .f32 := broadcastInDim S4096x4096 ![] bcast_S_S4096x4096 main_cst_1
  let main_v10 : IVec S4096x4096 1 := cmpf .olt main_v8 main_v9
  let main_v11 : FVec F S4096 .f32 := Host.absf main_arg4
  let main_cst_2 : FVec F S_ .f32 := constant S_ .f32 0x7F800000#32
  let main_v12 : FVec F S4096 .f32 := broadcastInDim S4096 ![] bcast_S_S4096 main_cst_2
  let main_v13 : IVec S4096 1 := cmpf .olt main_v11 main_v12
  let main_v14 : FVec F S4096x100 .f32 := Host.absf main_arg5
  let main_cst_3 : FVec F S_ .f32 := constant S_ .f32 0x7F800000#32
  let main_v15 : FVec F S4096x100 .f32 := broadcastInDim S4096x100 ![] bcast_S_S4096x100 main_cst_3
  let main_v16 : IVec S4096x100 1 := cmpf .olt main_v14 main_v15
  let main_v17 : FVec F S100 .f32 := Host.absf main_arg6
  fn_part1 (F := F) main_v4 main_v7 main_v10 main_v13 main_v16 main_v17
-- ==== Kernel.lean ====
abbrev S1024x1024x2x2 : Shape := ⟨4, ![1024, 1024, 2, 2]⟩
abbrev S1024 : Shape := ⟨1, ![1024]⟩
abbrev S32x256x32 : Shape := ⟨3, ![32, 256, 32]⟩
abbrev S4096x4096 : Shape := ⟨2, ![4096, 4096]⟩
abbrev S4096 : Shape := ⟨1, ![4096]⟩
abbrev S4096x100 : Shape := ⟨2, ![4096, 100]⟩
abbrev S100 : Shape := ⟨1, ![100]⟩
abbrev S1024x1024x4 : Shape := ⟨3, ![1024, 1024, 4]⟩
abbrev S1024x4x1024 : Shape := ⟨3, ![1024, 4, 1024]⟩
abbrev S1024x4096 : Shape := ⟨2, ![1024, 4096]⟩
abbrev S1024x2048 : Shape := ⟨2, ![1024, 2048]⟩
abbrev S32x2048 : Shape := ⟨2, ![32, 2048]⟩
abbrev S1x256x32 : Shape := ⟨3, ![1, 256, 32]⟩
abbrev S256x32 : Shape := ⟨2, ![256, 32]⟩
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩
abbrev S32x256 : Shape := ⟨2, ![32, 256]⟩
abbrev S1024x16384 : Shape := ⟨2, ![1024, 16384]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S1x4096 : Shape := ⟨2, ![1, 4096]⟩
abbrev S1024x1 : Shape := ⟨2, ![1024, 1]⟩
abbrev S1024x128 : Shape := ⟨2, ![1024, 128]⟩
abbrev S1x1 : Shape := ⟨2, ![1, 1]⟩
abbrev S1024x1024 : Shape := ⟨2, ![1024, 1024]⟩
abbrev S1024x512 : Shape := ⟨2, ![1024, 512]⟩
abbrev S1x512 : Shape := ⟨2, ![1, 512]⟩
abbrev S512x128 : Shape := ⟨2, ![512, 128]⟩
abbrev S8x1024x512 : Shape := ⟨3, ![8, 1024, 512]⟩
abbrev S1x1024x512 : Shape := ⟨3, ![1, 1024, 512]⟩
abbrev S1x1024x1 : Shape := ⟨3, ![1, 1024, 1]⟩
abbrev S1 : Shape := ⟨1, ![1]⟩
abbrev S1x1x1 : Shape := ⟨3, ![1, 1, 1]⟩
abbrev S1024x100 : Shape := ⟨2, ![1024, 100]⟩

abbrev nBuf : Space → Nat
  | .hbm => 25
  | .vmem => 18
  | .smem => 0
  | _ => 0

abbrev bufTy : (tb : Table) → Fin (tcTables nBuf tb) → BufTy
  | .hbm, ⟨0, _⟩ => ⟨S1024x1024x2x2, .f32⟩
  | .hbm, ⟨1, _⟩ => ⟨S1024, .i32⟩
  | .hbm, ⟨2, _⟩ => ⟨S32x256x32, .f32⟩
  | .hbm, ⟨3, _⟩ => ⟨S4096x4096, .f32⟩
  | .hbm, ⟨4, _⟩ => ⟨S4096, .f32⟩
  | .hbm, ⟨5, _⟩ => ⟨S4096x100, .f32⟩
  | .hbm, ⟨6, _⟩ => ⟨S100, .f32⟩
  | .hbm, ⟨7, _⟩ => ⟨S1024x1024x4, .f32⟩
  | .hbm, ⟨8, _⟩ => ⟨S1024x4x1024, .f32⟩
  | .hbm, ⟨9, _⟩ => ⟨S1024x4096, .f32⟩
  | .hbm, ⟨10, _⟩ => ⟨S1024x4096, .f32⟩
  | .hbm, ⟨11, _⟩ => ⟨S1024x16384, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x4096, .f32⟩
  | .hbm, ⟨20, _⟩ => ⟨S1024x1, .i32⟩
  | .hbm, ⟨21, _⟩ => ⟨S1024x128, .f32⟩
  | .hbm, ⟨22, _⟩ => ⟨S1x1, .f32⟩
  | .hbm, ⟨23, _⟩ => ⟨S1024x100, .f32⟩
  | .hbm, ⟨24, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S32x256x32, .f32⟩
  | .local _ .vmem, ⟨3, _⟩ => ⟨S1024x2048, .f32⟩
  | .local _ .vmem, ⟨4, _⟩ => ⟨S1024x2048, .f32⟩
  | .local _ .vmem, ⟨5, _⟩ => ⟨S1024x1024, .f32⟩
  | .local _ .vmem, ⟨6, _⟩ => ⟨S1024x1024, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S1024x1, .i32⟩
  | .local _ .vmem, ⟨15, _⟩ => ⟨S1024x128, .f32⟩
  | .local _ .vmem, ⟨16, _⟩ => ⟨S1x1, .f32⟩
  | .local _ .vmem, ⟨17, _⟩ => ⟨S8x1024x512, .f32⟩
  | _, _ => ⟨S1024x1024x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond1 (i : grid1.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k1_off1 (i : grid1.Coords) : Fin 3 → Nat :=
  let arg1 : BitVec 32 := BitVec.ofNat 32 (i 1).val
  let v16 : Index := Scalar.indexCast arg1
  let c0_7 : Index := 0#32
  let c0_8 : Index := 0#32
  ![v16.toNat, 0, 0]
def k1_cond2 (i : grid1.Coords) : BitVec 1 :=
  let arg0 : BitVec 32 := BitVec.ofNat 32 (i 0).val
  let c0_i32_4 : BitVec 32 := 0#32
  let v10 : BitVec 1 := Scalar.cmpi .ne arg0 c0_i32_4
  let v11 : BitVec 32 := Scalar.extui v10
  let c0_i32_5 : BitVec 32 := 0#32
  let v12 : BitVec 1 := Scalar.cmpi .ne v11 c0_i32_5
  v12

def k1_off2 (i : grid1.Coords) : Fin 3 → Nat :=
  let arg1 : BitVec 32 := BitVec.ofNat 32 (i 1).val
  let v16 : Index := Scalar.indexCast arg1
  let c0_7 : Index := 0#32
  let c0_8 : Index := 0#32
  ![v16.toNat, 0, 0]
def k1_cond3 (i : grid1.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_6 : BitVec 32 := 0#32
  let v15 : BitVec 1 := Scalar.cmpi .ne v14 c0_i32_6
  v15

def k1_off3 (i : grid1.Coords) : Fin 3 → Nat :=
  let arg1 : BitVec 32 := BitVec.ofNat 32 (i 1).val
  let v16 : Index := Scalar.indexCast arg1
  let c0_7 : Index := 0#32
  let c0_8 : Index := 0#32
  ![v16.toNat, 0, 0]
def k1_cond4 (i : grid1.Coords) : BitVec 1 :=
  let arg1 : BitVec 32 := BitVec.ofNat 32 (i 1).val
  let c0_i32_15 : BitVec 32 := 0#32
  let v30 : BitVec 1 := Scalar.cmpi .eq arg1 c0_i32_15
  let v31 : BitVec 32 := Scalar.extui v30
  let c0_i32_16 : BitVec 32 := 0#32
  let v32 : BitVec 1 := Scalar.cmpi .ne v31 c0_i32_16
  v32

def k1_cond5 (i : grid1.Coords) : BitVec 1 :=
  let arg1 : BitVec 32 := BitVec.ofNat 32 (i 1).val
  let c0_i32_17 : BitVec 32 := 0#32
  let v33 : BitVec 1 := Scalar.cmpi .ne arg1 c0_i32_17
  let v34 : BitVec 32 := Scalar.extui v33
  let c0_i32_18 : BitVec 32 := 0#32
  let v35 : BitVec 1 := Scalar.cmpi .ne v34 c0_i32_18
  v35

def k1_cond6 (i : grid1.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_19 : BitVec 32 := 0#32
  let v38 : BitVec 1 := Scalar.cmpi .ne v37 c0_i32_19
  v38

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]
-- ==== KernelIdeal.lean ====
variable {F : FTy → Type} [FloatOps F] [Named F]
def κ : String → Option EReal := fun
  | "mask" => some ⊥
  | _ => none
-- ==== ReferenceIdeal.lean ====
abbrev S1024x1024x2x2 : Shape := ⟨4, ![1024, 1024, 2, 2]⟩
abbrev S1024 : Shape := ⟨1, ![1024]⟩
abbrev S32x256x32 : Shape := ⟨3, ![32, 256, 32]⟩
abbrev S4096x4096 : Shape := ⟨2, ![4096, 4096]⟩
abbrev S4096 : Shape := ⟨1, ![4096]⟩
abbrev S4096x100 : Shape := ⟨2, ![4096, 100]⟩
abbrev S100 : Shape := ⟨1, ![100]⟩
abbrev S1024x2x2x1024 : Shape := ⟨4, ![1024, 2, 2, 1024]⟩
abbrev S4096x1024 : Shape := ⟨2, ![4096, 1024]⟩
abbrev S4096x32x32 : Shape := ⟨3, ![4096, 32, 32]⟩
abbrev S32x256x4096 : Shape := ⟨3, ![32, 256, 4096]⟩
abbrev S4096x32x256 : Shape := ⟨3, ![4096, 32, 256]⟩
abbrev S_ : Shape := ⟨0, ![]⟩
abbrev S4096x32 : Shape := ⟨2, ![4096, 32]⟩
abbrev S4096x32x1 : Shape := ⟨3, ![4096, 32, 1]⟩
abbrev S32x256 : Shape := ⟨2, ![32, 256]⟩
abbrev S1x32x256 : Shape := ⟨3, ![1, 32, 256]⟩
abbrev S32 : Shape := ⟨1, ![32]⟩
abbrev S1x32 : Shape := ⟨2, ![1, 32]⟩
abbrev S4096x32x2 : Shape := ⟨3, ![4096, 32, 2]⟩
abbrev S1024x4096 : Shape := ⟨2, ![1024, 4096]⟩
abbrev S1x4096 : Shape := ⟨2, ![1, 4096]⟩
abbrev S1024x100 : Shape := ⟨2, ![1024, 100]⟩
abbrev S1x100 : Shape := ⟨2, ![1, 100]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S1024x1024x2x2, .f32⟩
  | .hbm, ⟨1, _⟩ => ⟨S1024, .i32⟩
  | .hbm, ⟨2, _⟩ => ⟨S32x256x32, .f32⟩
  | .hbm, ⟨3, _⟩ => ⟨S4096x4096, .f32⟩
  | .hbm, ⟨4, _⟩ => ⟨S4096, .f32⟩
  | .hbm, ⟨5, _⟩ => ⟨S4096x100, .f32⟩
  | .hbm, ⟨6, _⟩ => ⟨S100, .f32⟩
  | .hbm, ⟨7, _⟩ => ⟨S1024x2x2x1024, .f32⟩
  | .hbm, ⟨8, _⟩ => ⟨S4096x1024, .f32⟩
  | .hbm, ⟨9, _⟩ => ⟨S4096x32x32, .f32⟩
  | .hbm, ⟨10, _⟩ => ⟨S32x256x4096, .f32⟩
  | .hbm, ⟨11, _⟩ => ⟨S4096x32x256, .f32⟩
  | .hbm, ⟨12, _⟩ => ⟨S4096x32x32, .f32⟩
  | .hbm, ⟨13, _⟩ => ⟨S_, .f32⟩
  | .hbm, ⟨14, _⟩ => ⟨S4096x32, .f32⟩
  | .hbm, ⟨15, _⟩ => ⟨S4096x32x1, .f32⟩
  | .hbm, ⟨16, _⟩ => ⟨S32x256x32, .f32⟩
  | .hbm, ⟨17, _⟩ => ⟨S_, .f32⟩
  | .hbm, ⟨18, _⟩ => ⟨S32x256, .f32⟩
  | .hbm, ⟨19, _⟩ => ⟨S1x32x256, .f32⟩
  | .hbm, ⟨20, _⟩ => ⟨S_, .f32⟩
  | .hbm, ⟨21, _⟩ => ⟨S4096x32x256, .f32⟩
  | .hbm, ⟨22, _⟩ => ⟨S4096x32x256, .f32⟩
  | .hbm, ⟨23, _⟩ => ⟨S4096x32x256, .f32⟩
  | .hbm, ⟨24, _⟩ => ⟨S4096x32x256, .f32⟩
  | .hbm, ⟨25, _⟩ => ⟨S4096x32x256, .f32⟩
  | .hbm, ⟨26, _⟩ => ⟨S4096x32x256, .f32⟩
  | .hbm, ⟨27, _⟩ => ⟨S4096x32x256, .i32⟩
  | .hbm, ⟨28, _⟩ => ⟨S_, .f32⟩
  | .hbm, ⟨29, _⟩ => ⟨S_, .i32⟩
  | .hbm, ⟨30, _⟩ => ⟨S4096x32, .f32⟩
  | .hbm, ⟨31, _⟩ => ⟨S4096x32, .i32⟩
  | .hbm, ⟨32, _⟩ => ⟨S32, .i32⟩
  | .hbm, ⟨33, _⟩ => ⟨S1x32, .i32⟩
  | .hbm, ⟨34, _⟩ => ⟨S_, .i32⟩
  | .hbm, ⟨35, _⟩ => ⟨S1x32, .i32⟩
  | .hbm, ⟨36, _⟩ => ⟨S1x32, .i1⟩
  | .hbm, ⟨37, _⟩ => ⟨S_, .i32⟩
  | .hbm, ⟨38, _⟩ => ⟨S1x32, .i32⟩
  | .hbm, ⟨39, _⟩ => ⟨S1x32, .i32⟩
  | .hbm, ⟨40, _⟩ => ⟨S1x32, .i32⟩
  | .hbm, ⟨41, _⟩ => ⟨S_, .i32⟩
  | .hbm, ⟨42, _⟩ => ⟨S4096x32, .i32⟩
  | .hbm, ⟨43, _⟩ => ⟨S4096x32, .i1⟩
  | .hbm, ⟨44, _⟩ => ⟨S_, .i32⟩
  | .hbm, ⟨45, _⟩ => ⟨S4096x32, .i32⟩
  | .hbm, ⟨46, _⟩ => ⟨S4096x32, .i32⟩
  | .hbm, ⟨47, _⟩ => ⟨S4096x32, .i32⟩
  | .hbm, ⟨48, _⟩ => ⟨S4096x32, .i32⟩
  | .hbm, ⟨49, _⟩ => ⟨S4096x32x1, .i32⟩
  | .hbm, ⟨50, _⟩ => ⟨S4096x32x1, .i32⟩
  | .hbm, ⟨51, _⟩ => ⟨S4096x32x2, .i32⟩
  | .hbm, ⟨52, _⟩ => ⟨S4096x32x32, .f32⟩
  | .hbm, ⟨53, _⟩ => ⟨S4096x1024, .f32⟩
  | .hbm, ⟨54, _⟩ => ⟨S1024x2x2x1024, .f32⟩
  | .hbm, ⟨55, _⟩ => ⟨S1024x1024x2x2, .f32⟩
  | .hbm, ⟨56, _⟩ => ⟨S1024x4096, .f32⟩
  | .hbm, ⟨57, _⟩ => ⟨S1024x4096, .f32⟩
  | .hbm, ⟨58, _⟩ => ⟨S1x4096, .f32⟩
  | .hbm, ⟨59, _⟩ => ⟨S1024x4096, .f32⟩
  | .hbm, ⟨60, _⟩ => ⟨S1024x4096, .f32⟩
  | .hbm, ⟨61, _⟩ => ⟨S_, .f32⟩
  | .hbm, ⟨62, _⟩ => ⟨S1024x4096, .f32⟩
  | .hbm, ⟨63, _⟩ => ⟨S1024x4096, .f32⟩
  | .hbm, ⟨64, _⟩ => ⟨S1024x100, .f32⟩
  | .hbm, ⟨65, _⟩ => ⟨S1x100, .f32⟩
  | .hbm, ⟨66, _⟩ => ⟨S1024x100, .f32⟩
  | .hbm, ⟨67, _⟩ => ⟨S1024x100, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S1024x1, .f32⟩
  | .hbm, ⟨74, _⟩ => ⟨S1024x100, .f32⟩
  | .hbm, ⟨75, _⟩ => ⟨S1024x100, .f32⟩
  | .hbm, ⟨76, _⟩ => ⟨S1024x100, .f32⟩
  | .hbm, ⟨77, _⟩ => ⟨S_, .f32⟩
  | .hbm, ⟨78, _⟩ => ⟨S1024, .f32⟩
  | .hbm, ⟨79, _⟩ => ⟨S1024x1, .f32⟩
  | .hbm, ⟨80, _⟩ => ⟨S1024x1, .f32⟩
  | .hbm, ⟨81, _⟩ => ⟨S1024x100, .f32⟩
  | .hbm, ⟨82, _⟩ => ⟨S1024x100, .f32⟩
  | .hbm, ⟨83, _⟩ => ⟨S1024x1, .i32⟩
  | .hbm, ⟨84, _⟩ => ⟨S_, .i32⟩
  | .hbm, ⟨85, _⟩ => ⟨S1024x1, .i32⟩
  | .hbm, ⟨86, _⟩ => ⟨S1024x1, .i1⟩
  | .hbm, ⟨87, _⟩ => ⟨S_, .i32⟩
  | .hbm, ⟨88, _⟩ => ⟨S1024x1, .i32⟩
  | .hbm, ⟨89, _⟩ => ⟨S1024x1, .i32⟩
  | .hbm, ⟨90, _⟩ => ⟨S1024x1, .i32⟩
  | .hbm, ⟨91, _⟩ => ⟨S1024x1x1, .i32⟩
  | .hbm, ⟨92, _⟩ => ⟨S1, .i32⟩
  | .hbm, ⟨93, _⟩ => ⟨S_, .i32⟩
  | .hbm, ⟨94, _⟩ => ⟨S1024x1x1, .i32⟩
  | .hbm, ⟨95, _⟩ => ⟨S1024x1x1, .i1⟩
  | .hbm, ⟨96, _⟩ => ⟨S1x1x1, .i32⟩
  | .hbm, ⟨97, _⟩ => ⟨S1024x1x1, .i32⟩
  | .hbm, ⟨98, _⟩ => ⟨S1024x1x1, .i1⟩
  | .hbm, ⟨99, _⟩ => ⟨S1024x1x1, .i1⟩
  | .hbm, ⟨100, _⟩ => ⟨S_, .i1⟩
  | .hbm, ⟨101, _⟩ => ⟨S1024x1, .i1⟩
  | .hbm, ⟨102, _⟩ => ⟨S1024x1, .f32⟩
  | .hbm, ⟨103, _⟩ => ⟨S_, .f32⟩
  | .hbm, ⟨104, _⟩ => ⟨S1024x1, .f32⟩
  | .hbm, ⟨105, _⟩ => ⟨S1024x1, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S1024x1024x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call2_cst : Ref sig .tc := ⟨.hbm, 68, rfl⟩
abbrev main_call2_v0 : Ref sig .tc := ⟨.hbm, 69, rfl⟩
abbrev main_call2_cst_0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_cst_1 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_v48 : Ref sig .tc := ⟨.hbm, 82, rfl⟩
abbrev main_v49 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_cst : Ref sig .tc := ⟨.hbm, 103, rfl⟩
abbrev main_call3_v14 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_5 : Ref sig .tc := ⟨.hbm, 108, rfl⟩
abbrev main_v53 : Ref sig .tc := ⟨.hbm, 109, rfl⟩
abbrev main_cst_6 : Ref sig .tc := ⟨.hbm, 110, rfl⟩
abbrev main_v54 : Ref sig .tc := ⟨.hbm, 111, rfl⟩

abbrev nD : Nat := 1
abbrev τ : Topo := Topo.v7x

variable {F : FTy → Type} [FloatOps F]
-- ==== Proof.PI.PqBody.lean ====
/-
  The first kernel's body: one triple over any whole memrefs.

  The body quantizes a block of 2048 feature columns, 32 rows at a time: rows `32 m … 32 m + 31` of the result are
  one function, `k0_pay2`, of the same rows of the features and of the `m`-th codebook.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Rows `32 m … 32 m + 31` of a block of columns. -/
def rows (m : Fin 32) : Rect S1024x2048 :=
  Rect.unit (s := S1024x2048) ![32 * m.val, 0] S32x2048.size (by
    have := m.isLt
    intro a; fin_cases a
    · change 32 * m.val + 32 ≤ 1024; omega
    · change 0 + 2048 ≤ 2048; omega)

/-- The `m`-th codebook. -/
def book (m : Fin 32) : Rect S32x256x32 :=
  Rect.unit (s := S32x256x32) ![m.val, 0, 0] S1x256x32.size (by
    have := m.isLt
    intro a; fin_cases a
    · change m.val + 1 ≤ 32; omega
    · change 0 + 256 ≤ 256; omega
    · change 0 + 32 ≤ 32; omega)

/-- The thirty-two stores of the body, last first. -/
def pieces (x : Vec F S1024x2048 .f32) (cb : Vec F S32x256x32 .f32) : List (View.Piece (Elt F) S1024x2048 .f32) :=
  ([31, 30, 29, 28, 27, 26, 25, 24, 23, 22, 21, 20, 19, 18, 17, 16, 15, 14, 13, 12, 11, 10, 9, 8, 7, 6, 5, 4, 3, 2, 1, 0] :
    List (Fin 32)).map fun m => ⟨rows m, k0_pay2 (View.ld x (rows m)) (View.ld cb (book m))⟩

/-- What the body leaves in the result's block. -/
def out (x : Vec F S1024x2048 .f32) (cb : Vec F S32x256x32 .f32) : Vec F S1024x2048 .f32 := View.canon (pieces x cb)

/-- Every element of the block lies in one of the thirty-two groups of rows. -/
theorem pieces_cover (x : Vec F S1024x2048 .f32) (cb : Vec F S32x256x32 .f32) (y : S1024x2048.Idx) :
    ∃ p ∈ pieces x cb, y ∈ p.1.set := by
  have h0 : (y 0 : ℕ) < 1024 := (y 0).isLt
  have h1 : (y 1 : ℕ) < 2048 := (y 1).isLt
  obtain ⟨m, hm⟩ : ∃ m : Fin 32, m.val = (y 0 : ℕ) / 32 := ⟨⟨(y 0 : ℕ) / 32, by omega⟩, rfl⟩
  refine ⟨⟨rows m, k0_pay2 (View.ld x (rows m)) (View.ld cb (book m))⟩, List.mem_map_of_mem (?_ : m ∈ _), ?_⟩
  · exact (by decide : ∀ m : Fin 32, m ∈ ([31, 30, 29, 28, 27, 26, 25, 24, 23, 22, 21, 20, 19, 18, 17, 16, 15, 14, 13, 12, 11,
      10, 9, 8, 7, 6, 5, 4, 3, 2, 1, 0] : List (Fin 32))) m
  · show y ∈ (rows m).set
    rw [rows, Rect.mem_set_unit]
    intro a; fin_cases a
    · change 32 * m.val ≤ (y 0 : ℕ) ∧ (y 0 : ℕ) < 32 * m.val + 32; omega
    · change 0 ≤ (y 1 : ℕ) ∧ (y 1 : ℕ) < 0 + 2048; omega

set_option maxHeartbeats 4000000 in
/-- The body over any whole memrefs: the inputs are handed back as they were and the result's block holds `out`. -/
theorem body_triple (c : Dev nD) (i : grid0.Coords)
    (M1 : Memref sig .tc .vmem S1024x2048 .f32) (h1 : M1.IsWhole) (M2 : Memref sig .tc .vmem S32x256x32 .f32) (h2 : M2.IsWhole)
    (M3 : Memref sig .tc .vmem S1024x2048 .f32) (h3 : M3.IsWhole)
    (x1 : Vec F S1024x2048 .f32) (x2 : Vec F S32x256x32 .f32) (x3 : Vec F S1024x2048 .f32) (E : Set ℕ) (Q : PUnit → sProp 𝕄) :
    iprop(owns c.tc M1 fullShare x1 ∗ owns c.tc M2 fullShare x2 ∗ owns c.tc M3 fullShare x3
        ∗ (iprop(owns c.tc M1 fullShare x1 ∗ owns c.tc M2 fullShare x2 ∗ owns c.tc M3 fullShare (out x1 x2)) -∗ Q ⟨⟩))
      ⊢ wp frame (wpE (defs₀ (F := F)) Variants.none c none) E (cc0__lambda_ i M1 h1 M2 h2 M3 h3) Q := by
  simp only [cc0__lambda__eq_skeleton]
  unfold cc0__lambda__skel owns
  iintro ⟨⟨%f1, %e1, H1⟩, ⟨%f2, %e2, H2⟩, ⟨%f3, %e3, H3⟩, Hk⟩
  subst e1 e2 e3
  sl_exec
  sl_step
  iapply Hk
  isplitl [H1]; · iexists _; isplitr; swap; (· iexact H1); ipureintro; rfl
  isplitl [H2]; · iexists _; isplitr; swap; (· iexact H2); ipureintro; rfl
  iexists _; isplitr; swap; (· iexact H3); ipureintro
  refine Eq.trans ?_ (View.read_writes_eq_canon M3.view f3 (pieces (M1.view.read (Elt F) f1) (M2.view.read (Elt F) f2)) (pieces_cover _ _))
  sl_unfold_words
  rfl

end Cert.KernelIdeal.Pq

end
-- ==== Proof.PI.PqRegion.lean ====
/-
  The first kernel's region: its proof data from any contents of the buffers it is entered with, the body's
  obligation at every point, and what the region leaves in its result's array.
-/
module

public import proofs.«01_k».proof.Proof.PI.PqBody

@[expose] public section

set_option maxRecDepth 16384

noncomputable section

namespace Cert.KernelIdeal.Pq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → Valuation τ sig (Elt F))

/-- Window `w`'s block at point `t`, read off the array the region is entered with. -/
abbrev iblk (c : Dev nD) (w : Fin 3) (t : Fin cfg0.N) : ((cfg0.win w).xblock (grid0.coords t)).Idx → Elt F (cfg0.win w).elt :=
  ((cfg0.win w).blk t).view.read (Elt F) (V c (Pipeline.arrRef spec0 w))

/-- The region's proof data: each input's buffer at its block, the result's at `out` of the two input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.scopedRest (Ix := Unit) (Name := ℕ) (U := UR sig nD τ) (Lvl := ℕ) (Val := Elt F) spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

/-- Each input's buffer holds its block at every point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans (by unfold Dat.fetched Dat.blockOf iblk; rw [A_eq]; try rfl)

/-- The body table's row at point `t` is the body as the schedule spells it. -/
theorem body_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dat V c) (defs₀ (F := F)) Variants.none () Set.univ := fun t => by
  rw [bigSep_W0, bigSep_W0, body_row]
  unfold bodyAt0
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (body_triple c (grid0.coords t) _ _ _ _ _ _ (iblk V c 0 t) (iblk V c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- What the region leaves in the result's array. -/
def left (c : Dev nD) : Buf (Elt F) ((c : Thread nD τ).loc main_v3) := (dat V c).arrAt 2 cfg0.N

end Cert.KernelIdeal.Pq

end
-- ==== Proof.PI.MlpBody.lean ====
/-
  The second kernel's body: one triple for every grid point `(p, j)`.

  The body adds the product of a slab of decoded features and a block of first-layer weights to the `j`-th plane of
  the scratch (at `p = 0` it stores it); at `p = 3` it also adds the block's share of the logits to the output
  window, and at `(3, 7)` it stores the loss. What it leaves is stated by the four functions `plane`, `logitsStep`,
  `lossStep` and the reads of the scratch plane by plane (`slot`).
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Planes of the scratch -/

/-- The `j`-th plane of the scratch. -/
def slot (j : Fin 8) : Rect S8x1024x512 :=
  Rect.unit (s := S8x1024x512) ![j.val, 0, 0] S1x1024x512.size (by
    have := j.isLt
    intro a; fin_cases a
    · change j.val + 1 ≤ 8; omega
    · change 0 + 1024 ≤ 1024; omega
    · change 0 + 512 ≤ 512; omega)

/-- What the scratch's `j`-th plane reads in contents `X`. -/
abbrev plane (X : Vec F S8x1024x512 .f32) (j : Fin 8) : Vec F S1x1024x512 .f32 := View.ld X (slot j)

/-- A rectangle at offsets `(j, 0, 0)` of a plane's size is the `j`-th plane. -/
theorem unit_eq_slot (j : Fin 8) {off : Fin 3 → Nat} (h : off = ![j.val, 0, 0])
    (inb : ∀ a, off a + S1x1024x512.size a ≤ S8x1024x512.size a) :
    Rect.unit (s := S8x1024x512) off S1x1024x512.size inb = slot j := by
  subst h; rfl

/-- Two different planes share no element. -/
theorem slot_emb_not_mem {j j' : Fin 8} (h : j' ≠ j) (x : (slot j').shape.Idx) : (slot j').emb x ∉ (slot j).set := by
  rw [slot, Rect.mem_set_unit]
  intro hm
  have h0 := hm 0
  have e : (((slot j').emb x) 0 : ℕ) = j'.val + 1 * (x 0 : ℕ) := rfl
  have hx : (x 0 : ℕ) < 1 := (x 0).isLt
  change j.val ≤ _ ∧ _ < j.val + 1 at h0
  rw [e] at h0
  exact h (Fin.ext (by omega))

/-- After one store through plane `j` of a memref, plane `j` reads the stored value and every other plane what it read. -/
theorem planes_after_store {κ : Kind} {sp : Space} (v : View sig κ sp S8x1024x512 .f32) (f : v.ty.Contents (Elt F))
    (j : Fin 8) (w : Vec F S1x1024x512 .f32) :
    plane (v.read (Elt F) (v.writes (Elt F) f [⟨slot j, w⟩])) j = w ∧
    ∀ j' : Fin 8, j' ≠ j → plane (v.read (Elt F) (v.writes (Elt F) f [⟨slot j, w⟩])) j' = plane (v.read (Elt F) f) j' := by
  constructor
  · funext x
    exact View.read_writes_cons_emb _ _ (slot j) w [] x
  · intro j' hj
    funext x
    exact View.read_writes_cons_miss _ _ ⟨slot j, w⟩ [] _ (slot_emb_not_mem hj x)

/-- The body's offset into the scratch, as it computes it, is the second coordinate. -/
theorem offset_eq (i : grid1.Coords) :
    (![BitVec.toNat (Scalar.indexCast (BitVec.ofNat 32 (i 1).val)), 0, 0] : Fin 3 → Nat) = ![(i 1).val, 0, 0] :=
  k1_off1_eq i

/-- A load of the scratch at the body's offset reads the plane of the second coordinate. -/
theorem ld_offset (X : Vec F S8x1024x512 .f32) (i : grid1.Coords) (inb) :
    View.ld X (Rect.unit (s := S8x1024x512) ![BitVec.toNat (Scalar.indexCast (BitVec.ofNat 32 (i 1).val)), 0, 0] ![1, 1024, 512] inb)
      = plane X (i 1) := by
  have h := offset_eq i
  generalize (![BitVec.toNat (Scalar.indexCast (BitVec.ofNat 32 (i 1).val)), 0, 0] : Fin 3 → Nat) = o at *
  subst h; rfl

/-- The same, under two functions. -/
theorem plane_congr {α : Type} (g : Vec F S1x1024x512 .f32 → Vec F S1x1024x512 .f32) (k : Vec F S1x1024x512 .f32 → α)
    (X : Vec F S8x1024x512 .f32) (i : grid1.Coords) (inb) :
    k (g (View.ld X (Rect.unit (s := S8x1024x512) ![BitVec.toNat (Scalar.indexCast (BitVec.ofNat 32 (i 1).val)), 0, 0] ![1, 1024, 512] inb)))
      = k (g (plane X (i 1))) :=
  congrArg (fun x => k (g x)) (ld_offset X i inb)

/-- One store at the body's offset: the plane of the second coordinate reads the stored value, the others what they read. -/
theorem planes_after_offset {κ : Kind} {sp : Space} (v : View sig κ sp S8x1024x512 .f32) (f : v.ty.Contents (Elt F))
    (i : grid1.Coords) (off : Fin 3 → Nat) (ho : off = ![(i 1).val, 0, 0]) (inb) (w u : Vec F S1x1024x512 .f32) (hw : w = u) :
    plane (v.read (Elt F) (v.writes (Elt F) f [⟨Rect.unit (s := S8x1024x512) off S1x1024x512.size inb, w⟩])) (i 1) = u ∧
    ∀ j' : Fin 8, j' ≠ i 1 →
      plane (v.read (Elt F) (v.writes (Elt F) f [⟨Rect.unit (s := S8x1024x512) off S1x1024x512.size inb, w⟩])) j'
        = plane (v.read (Elt F) f) j' := by
  subst ho hw
  exact planes_after_store v f (i 1) w

/-- After one store of a whole memref it reads the stored value. -/
theorem read_store_whole {κ : Kind} {sp : Space} {S : Shape} {e : EltTy} (v : View sig κ sp S e) (f : v.ty.Contents (Elt F))
    {off : Fin S.rank → Nat} (h : ∀ a, off a = 0) (inb) (w : S.Idx → Elt F e) :
    v.read (Elt F) (v.writes (Elt F) f [⟨Rect.unit off S.size inb, w⟩]) = w := by
  obtain rfl : off = fun _ => 0 := funext h
  funext y
  have e : (Rect.unit (s := S) (fun _ => 0) S.size inb).emb y = y := by
    funext a; apply Fin.ext; show 0 + 1 * (y a : ℕ) = y a; omega
  have := View.read_writes_cons_emb (Val := Elt F) v f (Rect.unit (s := S) (fun _ => 0) S.size inb) w [] y
  rwa [e] at this

/-! ## The body -/

/-- Which branches the body takes at a grid point. -/
theorem branches (i : grid1.Coords) :
    (((i 0).val = 0 ∧ k1_cond1 i = 1#1 ∧ ¬ k1_cond2 i = 1#1 ∧ ¬ k1_cond3 i = 1#1)
    ∨ ((i 0).val ≠ 0 ∧ (i 0).val ≠ 3 ∧ ¬ k1_cond1 i = 1#1 ∧ k1_cond2 i = 1#1 ∧ ¬ k1_cond3 i = 1#1)
    ∨ ((i 0).val = 3 ∧ (i 1).val = 0 ∧ ¬ k1_cond1 i = 1#1 ∧ k1_cond2 i = 1#1 ∧ k1_cond3 i = 1#1
        ∧ k1_cond4 i = 1#1 ∧ ¬ k1_cond5 i = 1#1 ∧ ¬ k1_cond6 i = 1#1)
    ∨ ((i 0).val = 3 ∧ (i 1).val ≠ 0 ∧ (i 1).val ≠ 7 ∧ ¬ k1_cond1 i = 1#1 ∧ k1_cond2 i = 1#1 ∧ k1_cond3 i = 1#1
        ∧ ¬ k1_cond4 i = 1#1 ∧ k1_cond5 i = 1#1 ∧ ¬ k1_cond6 i = 1#1)
    ∨ ((i 0).val = 3 ∧ (i 1).val = 7 ∧ ¬ k1_cond1 i = 1#1 ∧ k1_cond2 i = 1#1 ∧ k1_cond3 i = 1#1
        ∧ ¬ k1_cond4 i = 1#1 ∧ k1_cond5 i = 1#1 ∧ k1_cond6 i = 1#1)) := by
  revert i
  decide +kernel

/-- The plane the body writes at a point: the product alone at `p = 0`, else added to what the plane held. -/
def planeStep (i : grid1.Coords) (x2 : Vec F S1024x1024 .f32) (x3 : Vec F S1024x512 .f32) (old : Vec F S1x1024x512 .f32) :
    Vec F S1x1024x512 .f32 :=
  if (i 0).val = 0 then k1_pay2 x2 x3 else k1_pay3 x2 x3 old

/-- What the body leaves in the logits' window at a point, over the plane `h` it has just written and what the window
    held: nothing new before `p = 3`; at `p = 3` the first block with the bias, or the block's share added. -/
def logitsStep (i : grid1.Coords) (h : Vec F S1x1024x512 .f32) (x4 : Vec F S1x512 .f32) (x5 : Vec F S512x128 .f32)
    (x6 : Vec F S1x128 .f32) (old : Vec F S1024x128 .f32) : Vec F S1024x128 .f32 :=
  if (i 0).val = 3 then if (i 1).val = 0 then k1_pay5 h x4 x5 x6 else k1_pay6 h x4 x5 old else old

/-- What the body leaves in the loss's window at a point: the loss of the finished logits at the last point. -/
def lossStep (i : grid1.Coords) (l : Vec F S1024x128 .f32) (x7 : Vec F S1024x1 .i32) (old : Vec F S1x1 .f32) : Vec F S1x1 .f32 :=
  if (i 0).val = 3 ∧ (i 1).val = 7 then k1_pay7 l x7 else old

set_option maxHeartbeats 2000000 in
/-- The body at any point, over any whole memrefs: the inputs are handed back as they were, the scratch's plane `j`
    holds `planeStep` and its other planes what they held, and the two outputs hold `logitsStep` and `lossStep`. -/
theorem body_triple (c : Dev nD) (i : grid1.Coords)
    (M2 : Memref sig .tc .vmem S1024x1024 .f32) (h2 : M2.IsWhole) (M3 : Memref sig .tc .vmem S1024x512 .f32) (h3 : M3.IsWhole)
    (M4 : Memref sig .tc .vmem S1x512 .f32) (h4 : M4.IsWhole) (M5 : Memref sig .tc .vmem S512x128 .f32) (h5 : M5.IsWhole)
    (M6 : Memref sig .tc .vmem S1x128 .f32) (h6 : M6.IsWhole) (M7 : Memref sig .tc .vmem S1024x1 .i32) (h7 : M7.IsWhole)
    (M8 : Memref sig .tc .vmem S1024x128 .f32) (h8 : M8.IsWhole) (M9 : Memref sig .tc .vmem S1x1 .f32) (h9 : M9.IsWhole)
    (M10 : Memref sig .tc .vmem S8x1024x512 .f32) (h10 : M10.IsWhole)
    (x2 : Vec F S1024x1024 .f32) (x3 : Vec F S1024x512 .f32) (x4 : Vec F S1x512 .f32) (x5 : Vec F S512x128 .f32)
    (x6 : Vec F S1x128 .f32) (x7 : Vec F S1024x1 .i32) (x8 : Vec F S1024x128 .f32) (x9 : Vec F S1x1 .f32)
    (X : Vec F S8x1024x512 .f32) (E : Set ℕ) (Q : PUnit → sProp 𝕄) :
    iprop(owns c.tc M2 fullShare x2 ∗ owns c.tc M3 fullShare x3 ∗ owns c.tc M4 fullShare x4 ∗ owns c.tc M5 fullShare x5
        ∗ owns c.tc M6 fullShare x6 ∗ owns c.tc M7 fullShare x7 ∗ owns c.tc M8 fullShare x8 ∗ owns c.tc M9 fullShare x9
        ∗ owns c.tc M10 fullShare X
        ∗ (∀ X', iprop(⌜plane X' (i 1) = planeStep i x2 x3 (plane X (i 1)) ∧ ∀ j, j ≠ i 1 → plane X' j = plane X j⌝
          ∗ owns c.tc M2 fullShare x2 ∗ owns c.tc M3 fullShare x3 ∗ owns c.tc M4 fullShare x4 ∗ owns c.tc M5 fullShare x5
          ∗ owns c.tc M6 fullShare x6 ∗ owns c.tc M7 fullShare x7
          ∗ owns c.tc M8 fullShare (logitsStep i (planeStep i x2 x3 (plane X (i 1))) x4 x5 x6 x8)
          ∗ owns c.tc M9 fullShare (lossStep i (logitsStep i (planeStep i x2 x3 (plane X (i 1))) x4 x5 x6 x8) x7 x9)
          ∗ owns c.tc M10 fullShare X') -∗ Q ⟨⟩))
      ⊢ wp frame (wpE (defs₀ (F := F)) Variants.none c none) E
          (cc1__mlp_kernel i M2 h2 M3 h3 M4 h4 M5 h5 M6 h6 M7 h7 M8 h8 M9 h9 M10 h10) Q := by
  rw [cc1__mlp_kernel_eq_skeleton]
  unfold cc1__mlp_kernel_skel owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, Hk⟩
  subst e2 e3 e4 e5 e6 e7 e8 e9 e10
  rcases branches i with ⟨hp, c1, c2, c3⟩ | ⟨hp, hj, c1, c2, c3⟩ | ⟨hp, hj, c1, c2, c3, c4, c5, c6⟩
    | ⟨hp, hj, hj', c1, c2, c3, c4, c5, c6⟩ | ⟨hp, hj, c1, c2, c3, c4, c5, c6⟩
  all_goals
    sl_exec
    sl_step
    iapply Hk
    isplitr [H2 H3 H4 H5 H6 H7 H8 H9 H10]
    swap
    · isplitl [H2]; · iexists _; isplitr; swap; (· iexact H2); ipureintro; rfl
      isplitl [H3]; · iexists _; isplitr; swap; (· iexact H3); ipureintro; rfl
      isplitl [H4]; · iexists _; isplitr; swap; (· iexact H4); ipureintro; rfl
      isplitl [H5]; · iexists _; isplitr; swap; (· iexact H5); ipureintro; rfl
      isplitl [H6]; · iexists _; isplitr; swap; (· iexact H6); ipureintro; rfl
      isplitl [H7]; · iexists _; isplitr; swap; (· iexact H7); ipureintro; rfl
      isplitl [H8]
      · iexists _; isplitr; swap; (· iexact H8); ipureintro
        sl_unfold_words
        simp only [logitsStep, planeStep, hp, if_true, if_false, OfNat.ofNat_ne_zero, *]
        try first
          | rfl
          | (refine (read_store_whole M8.view f8 (by decide) _ _).trans ?_
             simp (disch := decide) only [View.readAt_eq_ld, View.ld_unit_lit, View.readCov_cons_toLoadRect]
             try exact plane_congr (k1_pay3 _ _) (fun h => k1_pay5 h _ _ _) _ i _
             try exact plane_congr (k1_pay3 _ _) (fun h => k1_pay6 h _ _ _) _ i _
             try exact plane_congr (k1_pay3 _ _) (fun h => k1_pay7 (k1_pay6 h _ _ _) _) _ i _)
      isplitl [H9]
      · iexists _; isplitr; swap; (· iexact H9); ipureintro
        sl_unfold_words
        simp only [lossStep, logitsStep, planeStep, hp, if_true, if_false, OfNat.ofNat_ne_zero, _root_.and_self, _root_.and_false, _root_.false_and, _root_.and_true, *]
        try first
          | rfl
          | (refine (read_store_whole M9.view f9 (by decide) _ _).trans ?_
             simp (disch := decide) only [View.readAt_eq_ld, View.ld_unit_lit, View.readCov_cons_toLoadRect]
             try exact plane_congr (k1_pay3 _ _) (fun h => k1_pay5 h _ _ _) _ i _
             try exact plane_congr (k1_pay3 _ _) (fun h => k1_pay6 h _ _ _) _ i _
             try exact plane_congr (k1_pay3 _ _) (fun h => k1_pay7 (k1_pay6 h _ _ _) _) _ i _)
      · iexists _; isplitr; swap; (· iexact H10); ipureintro; rfl
    · ipureintro
      sl_unfold_words
      refine planes_after_offset M10.view f10 i _ (offset_eq i) _ _ _ ?_
      simp (disch := decide) only [planeStep, hp, View.readAt_eq_ld, View.ld_unit_lit, if_true, if_false, OfNat.ofNat_ne_zero]
      try exact congrArg (k1_pay3 _ _) (ld_offset _ i _)

end Cert.KernelIdeal.Mlp

end
-- ==== Proof.PI.MlpRegion.lean ====
/-
  The second kernel's region: its proof data from any contents of the buffers it is entered with, the body's
  obligation at every point, and what the region leaves in its results' arrays.

  The grid is 4 feature blocks by 8 blocks of hidden units, point `8 n + j` being block `j` of feature block `n`. The
  scratch buffer keeps, for each of the 8 blocks of hidden units, the partial product over the feature blocks seen.
-/
module

public import proofs.«01_k».proof.Proof.PI.MlpBody

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → Valuation τ sig (Elt F))

/-! ## The grid -/

/-- Point `8 n + j` of the grid. -/
def pt (n : ℕ) (j : Fin 8) : Fin cfg1.N := ⟨(8 * n + j.val) % 32, by have : cfg1.N = 32 := N_1; omega⟩

/-- A point's first coordinate is its number over 8, -/
theorem coords_0 : ∀ t : Fin cfg1.N, ((grid1.coords t) 0).val = t.val / 8 :=
  (by decide +kernel : ∀ t : Fin grid1.N, ((grid1.coords t) 0).val = t.val / 8)
/-- and its second the remainder. -/
theorem coords_1 : ∀ t : Fin cfg1.N, ((grid1.coords t) 1).val = t.val % 8 :=
  (by decide +kernel : ∀ t : Fin grid1.N, ((grid1.coords t) 1).val = t.val % 8)

/-- Every point is point `8 n + j` for its own coordinates. -/
theorem pt_coords (t : Fin cfg1.N) : pt (t.val / 8) ((grid1.coords t) 1) = t := by
  have h : t.val < 32 := lt_of_lt_of_eq t.isLt N_1
  apply Fin.ext
  show (8 * (t.val / 8) + ((grid1.coords t) 1).val) % 32 = t.val
  rw [coords_1]; omega

/-- The logits' buffer is stored at the last feature block only. -/
theorem idle_6 : ∀ t : Fin cfg1.N, cfg1.idle 6 (grid1.coords t) = decide (t.val < 24) :=
  (by decide +kernel : ∀ t : Fin grid1.N, idle1 6 (grid1.coords t) = decide (t.val < 24))
/-- The loss's buffer is stored at the last point only. -/
theorem idle_7 : ∀ t : Fin cfg1.N, cfg1.idle 7 (grid1.coords t) = decide (t.val < 31) :=
  (by decide +kernel : ∀ t : Fin grid1.N, idle1 7 (grid1.coords t) = decide (t.val < 31))

/-! ## What the buffers hold -/

/-- Window `w`'s block at point `t`, read off the array the region is entered with. -/
abbrev iblk (c : Dev nD) (w : Fin 8) (t : Fin cfg1.N) : ((cfg1.win w).xblock (grid1.coords t)).Idx → Elt F (cfg1.win w).elt :=
  ((cfg1.win w).blk t).view.read (Elt F) (V c (Pipeline.arrRef spec1 w))

/-- The partial product of block `j` of hidden units over the first `n` feature blocks. -/
def hid (c : Dev nD) (j : Fin 8) : ℕ → Vec F S1x1024x512 .f32
  | 0 => k1_pay2 (iblk V c 0 (pt 0 j)) (iblk V c 1 (pt 0 j))
  | n + 1 => planeStep (grid1.coords (pt n j)) (iblk V c 0 (pt n j)) (iblk V c 1 (pt n j)) (hid c j n)

/-- The logits after the first `n` blocks of hidden units. -/
def acc (c : Dev nD) : ℕ → Vec F S1024x128 .f32
  | 0 => k1_pay5 (hid V c 0 4) (iblk V c 2 (pt 3 0)) (iblk V c 3 (pt 3 0)) (iblk V c 4 (pt 3 0))
  | n + 1 => logitsStep (grid1.coords (pt 3 (Fin.ofNat 8 n))) (hid V c (Fin.ofNat 8 n) 4) (iblk V c 2 (pt 3 (Fin.ofNat 8 n)))
      (iblk V c 3 (pt 3 (Fin.ofNat 8 n))) (iblk V c 4 (pt 3 (Fin.ofNat 8 n))) (acc c n)

/-- The loss, from the whole logits. -/
def loss (c : Dev nD) : Vec F S1x1 .f32 := k1_pay7 (acc V c 8) (iblk V c 5 (pt 3 7))

/-- What the scratch buffer holds before point `t`: each block's partial product over the feature blocks seen. -/
def Seen (c : Dev nD) (t : ℕ) (X : Vec F S8x1024x512 .f32) : Prop :=
  ∀ j : Fin 8, 0 < (t + 7 - j.val) / 8 → plane X j = hid V c j ((t + 7 - j.val) / 8)

theorem planeStep_zero (i : grid1.Coords) (h : (i 0).val = 0) (x2 : Vec F S1024x1024 .f32) (x3 : Vec F S1024x512 .f32)
    (a b : Vec F S1x1024x512 .f32) : planeStep i x2 x3 a = planeStep i x2 x3 b := by
  unfold planeStep; rw [if_pos h, if_pos h]

/-- The plane the body writes at point `t` is the next partial product of its block, -/
theorem planeStep_seen (c : Dev nD) (t : Fin cfg1.N) (X : Vec F S8x1024x512 .f32) (h : Seen V c t.val X) :
    planeStep (grid1.coords t) (iblk V c 0 t) (iblk V c 1 t) (plane X ((grid1.coords t) 1))
      = hid V c ((grid1.coords t) 1) (t.val / 8 + 1) := by
  have hj := coords_1 t
  show _ = planeStep (grid1.coords (pt (t.val / 8) ((grid1.coords t) 1))) (iblk V c 0 (pt (t.val / 8) ((grid1.coords t) 1)))
    (iblk V c 1 (pt (t.val / 8) ((grid1.coords t) 1))) (hid V c ((grid1.coords t) 1) (t.val / 8))
  rw [pt_coords]
  by_cases h0 : t.val / 8 = 0
  · exact planeStep_zero _ ((coords_0 t).trans h0) _ _ _ _
  · have he : (t.val + 7 - ((grid1.coords t) 1).val) / 8 = t.val / 8 := by rw [hj]; omega
    have := h ((grid1.coords t) 1) (by rw [he]; omega)
    rw [he] at this
    rw [this]

/-- and the scratch buffer it leaves has seen point `t`. -/
theorem seen_succ (c : Dev nD) (t : Fin cfg1.N) (X X' : Vec F S8x1024x512 .f32) (h : Seen V c t.val X)
    (h1 : plane X' ((grid1.coords t) 1) = planeStep (grid1.coords t) (iblk V c 0 t) (iblk V c 1 t) (plane X ((grid1.coords t) 1)))
    (h2 : ∀ j : Fin 8, j ≠ (grid1.coords t) 1 → plane X' j = plane X j) : Seen V c (t.val + 1) X' := by
  have hj := coords_1 t
  intro j hp
  by_cases hjt : j = (grid1.coords t) 1
  · subst hjt
    rw [h1, planeStep_seen V c t X h]
    have he : (t.val + 1 + 7 - ((grid1.coords t) 1).val) / 8 = t.val / 8 + 1 := by rw [hj]; omega
    rw [he]
  · have hne : j.val ≠ t.val % 8 := fun e => hjt (Fin.ext (e.trans hj.symm))
    have hl := j.isLt
    have he : (t.val + 1 + 7 - j.val) / 8 = (t.val + 7 - j.val) / 8 := by omega
    rw [h2 j hjt, he]
    exact h j (by rw [← he]; exact hp)

/-! ## The proof data -/

/-- The staging buffers of the first kernel, each whole at some contents: not read and not written here. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `t`. -/
def inv (c : Dev nD) (t : ℕ) : sProp 𝕄 :=
  iprop(others c ∗ ∃ X : Vec F S8x1024x512 .f32, ⌜Seen V c t X⌝ ∗ owns c.tc (Memref.whole cc1_scratch0) fullShare X)

/-- The region's proof data: each input's buffer at its block, the logits' at the logits so far, the loss's at the
    loss. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => acc V c (t.val - 23)
    | ⟨7, _⟩ => loss V c
  Φ t := inv V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = acc V c (t.val - 23) := by dsimp only [dat]
theorem after_7 (c : Dev nD) (t : Fin cfg1.N) : (dat V c).after 7 t = loss V c := by dsimp only [dat]

/-- Each input's buffer holds its block at every point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]) t d).trans (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]) t d).trans (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]) t d).trans (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]) t d).trans (by unfold Dat.fetched Dat.blockOf iblk; rw [A_eq]; try rfl)

/-- Past the first point of the last feature block the logits' buffer holds the logits so far. -/
theorem before_6 (c : Dev nD) (t : Fin cfg1.N) (d) (ht : 24 < t.val) : (dat V c).before 6 t d = acc V c (t.val - 24) := by
  have h32 : t.val < 32 := lt_of_lt_of_eq t.isLt N_1
  have hf : (cfg1.win 6).flush ⟨t.val - 1, Nat.lt_of_le_of_lt (Nat.sub_le _ _) t.isLt⟩ = false :=
    Bool.eq_false_iff.mpr fun h => by
      have := (flush1_6 ⟨t.val - 1, Nat.lt_of_le_of_lt (Nat.sub_le _ _) t.isLt⟩).mp h
      dsimp only at this; omega
  have hi : cfg1.idle 6 (cfg1.grid.coords ⟨t.val - 1, Nat.lt_of_le_of_lt (Nat.sub_le _ _) t.isLt⟩) = false :=
    (idle_6 _).trans (decide_eq_false (by dsimp only; omega))
  rw [(dat V c).before_of_pos 6 t (by omega) ((cfg1.win 6).fetch_out rfl t), hf, if_neg Bool.false_ne_true]
  unfold Dat.left
  rw [hi]
  show (dat V c).kept 6 _ d = _
  have : (dat V c).kept 6 ⟨t.val - 1, Nat.lt_of_le_of_lt (Nat.sub_le _ _) t.isLt⟩ d
      = (dat V c).after 6 ⟨t.val - 1, Nat.lt_of_le_of_lt (Nat.sub_le _ _) t.isLt⟩ := rfl
  rw [this, after_6]
  show acc V c (t.val - 1 - 23) = _
  congr 1

/-- One more block of hidden units: the logits the body leaves at a point of the last feature block. -/
theorem logitsStep_acc (c : Dev nD) (t : Fin cfg1.N) (d) (ht : 24 ≤ t.val) :
    logitsStep (grid1.coords t) (hid V c ((grid1.coords t) 1) (t.val / 8 + 1)) (iblk V c 2 t) (iblk V c 3 t) (iblk V c 4 t)
      ((dat V c).before 6 t d) = acc V c (t.val - 23) := by
  have h32 : t.val < 32 := lt_of_lt_of_eq t.isLt N_1
  have h8 : t.val / 8 = 3 := by omega
  have hj : Fin.ofNat 8 (t.val - 24) = (grid1.coords t) 1 := by
    apply Fin.ext; rw [coords_1]; show (t.val - 24) % 8 = _; omega
  have hp : pt 3 ((grid1.coords t) 1) = t := by have := pt_coords t; rwa [h8] at this
  have hn : t.val - 23 = (t.val - 24) + 1 := by omega
  rw [hn]
  show _ = logitsStep (grid1.coords (pt 3 (Fin.ofNat 8 (t.val - 24)))) (hid V c (Fin.ofNat 8 (t.val - 24)) 4)
    (iblk V c 2 (pt 3 (Fin.ofNat 8 (t.val - 24)))) (iblk V c 3 (pt 3 (Fin.ofNat 8 (t.val - 24))))
    (iblk V c 4 (pt 3 (Fin.ofNat 8 (t.val - 24)))) (acc V c (t.val - 24))
  rw [hj, hp, h8]
  by_cases h : t.val = 24
  · have h3 : ((grid1.coords t) 0).val = 3 := (coords_0 t).trans h8
    have h0 : ((grid1.coords t) 1).val = 0 := (coords_1 t).trans (by omega)
    unfold logitsStep
    rw [if_pos h3, if_pos h3, if_pos h0, if_pos h0]
  · rw [before_6 V c t d (by omega)]

/-! ## The body's obligation -/

/-- The body table's row at point `t` is the body as the schedule spells it. -/
theorem body_row (t : Fin cfg1.N) : defs₀ (F := F) .tc cfg1.body (cfg1.bodyArgs t (cfg1.slots t)) = bodyAt1 t := by
  unfold defs₀; rw [Defs.onTc_tc]

/-- What the logits' buffer is left with meets what is asked of it. -/
theorem leaves_6 (c : Dev nD) (t : Fin cfg1.N) (d) :
    owns c.tc (st1_6 t) fullShare (logitsStep (grid1.coords t) (hid V c ((grid1.coords t) 1) (t.val / 8 + 1)) (iblk V c 2 t)
      (iblk V c 3 t) (iblk V c 4 t) ((dat V c).before 6 t d)) ⊢ ((dat V c).leavesExact 6 t : sProp 𝕄) := by
  by_cases ht : 24 ≤ t.val
  · unfold Dat.leavesExact
    rw [show cfg1.idle 6 (cfg1.grid.coords t) = false from (idle_6 t).trans (decide_eq_false (by omega))]
    rw [logitsStep_acc V c t d ht]
    show _ ⊢ owns c.tc (st1_6 t) fullShare ((dat V c).after 6 t)
    rw [after_6]
  · rw [(dat V c).leavesExact_idle 6 t ((idle_6 t).trans (decide_eq_true (by omega)))
      (Bool.eq_false_iff.mpr fun h => by have := (flush1_6 t).mp h; omega)]
    unfold logitsStep
    rw [if_neg (by rw [coords_0]; omega)]
    iintro H; iexists d; iexact H

/-- What the loss's buffer is left with meets what is asked of it. -/
theorem leaves_7 (c : Dev nD) (t : Fin cfg1.N) (d d') :
    owns c.tc (st1_7 t) fullShare (lossStep (grid1.coords t) (logitsStep (grid1.coords t) (hid V c ((grid1.coords t) 1) (t.val / 8 + 1))
      (iblk V c 2 t) (iblk V c 3 t) (iblk V c 4 t) ((dat V c).before 6 t d)) (iblk V c 5 t) ((dat V c).before 7 t d'))
      ⊢ ((dat V c).leavesExact 7 t : sProp 𝕄) := by
  have h32 : t.val < 32 := lt_of_lt_of_eq t.isLt N_1
  by_cases ht : 31 ≤ t.val
  · unfold Dat.leavesExact
    rw [show cfg1.idle 7 (cfg1.grid.coords t) = false from (idle_7 t).trans (decide_eq_false (by omega))]
    rw [logitsStep_acc V c t d (by omega)]
    show _ ⊢ owns c.tc (st1_7 t) fullShare ((dat V c).after 7 t)
    rw [after_7]
    unfold lossStep loss
    rw [if_pos ⟨(coords_0 t).trans (by omega), (coords_1 t).trans (by omega)⟩,
      show t = pt 3 7 from Fin.ext (by show t.val = 31; omega)]
    exact .rfl
  · rw [(dat V c).leavesExact_idle 7 t ((idle_7 t).trans (decide_eq_true (by omega)))
      (Bool.eq_false_iff.mpr fun h => by have := (flush1_7 t).mp h; omega)]
    unfold lossStep
    rw [if_neg (by rw [coords_0, coords_1]; omega)]
    iintro H; iexists d'; iexact H

/-- The body's obligation at every point. -/
theorem body_obligation (c : Dev nD) : BodyObligation (dat V c) (defs₀ (F := F)) Variants.none () Set.univ := fun t => by
  show _ ⊢ wp _ _ _ _ fun _ => iprop(_ ∗ _ ∗ bigSep Finset.univ fun w => (dat V c).leavesExact w t)
  rw [bigSep_W1, bigSep_W1, body_row]
  unfold bodyAt1
  simp only [before_0, before_1, before_2, before_3, before_4, before_5]
  rw [show (dat V c).Φ t.castSucc = inv V c t.val from rfl, show (dat V c).Φ t.succ = inv V c (t.val + 1) from rfl,
    show (dat V c).owesAt () t.succ = (dat V c).owesAt () t.castSucc from rfl]
  unfold inv
  iintro ⟨⟨Hr, %X, %hX, HX⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c (grid1.coords t) _ _ _ _ _ _ _ _ _ _ _ _ _ _ _ _ _ _ (iblk V c 0 t) (iblk V c 1 t) (iblk V c 2 t)
    (iblk V c 3 t) (iblk V c 4 t) (iblk V c 5 t) _ _ X Set.univ _)
  rw [planeStep_seen V c t X hX]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  iintro %X'
  iintro ⟨%hX', H0, H1, H2, H3, H4, H5, H6, H7, HX⟩
  isplitl [Hr HX]
  · isplitl [Hr]; · iexact Hr
    iexists X'; isplitr
    · ipureintro; exact seen_succ V c t X X' hX (hX'.1.trans (planeStep_seen V c t X hX).symm) hX'.2
    iexact HX
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_6 V c t d6); iexact H6
  · iapply (leaves_7 V c t d6 d7); iexact H7

/-- What the region leaves in the logits' array, -/
def leftLogits (c : Dev nD) : Buf (Elt F) ((c : Thread nD τ).loc main_v10_0) := (dat V c).arrAt 6 cfg1.N
/-- and in the loss's. -/
def leftLoss (c : Dev nD) : Buf (Elt F) ((c : Thread nD τ).loc main_v10_1) := (dat V c).arrAt 7 cfg1.N

/-- The scoped rest at the start is the invariant before the first point, -/
theorem inv_first (c : Dev nD) :
    (Pipeline.scopedRest (Ix := Unit) (Name := ℕ) (U := UR sig nD τ) (Lvl := ℕ) (Val := Elt F) spec1 c : sProp 𝕄) ⊢ inv V c 0 := by
  refine (Entails.of_eq (scopedRest1_eq c)).trans ?_
  unfold inv others
  iintro ⟨H0, H1, H2, H3, H4, %f, Hf⟩
  isplitl [H0 H1 H2 H3 H4]
  · isplitl [H0]; · iexact H0
    isplitl [H1]; · iexact H1
    isplitl [H2]; · iexact H2
    isplitl [H3]; · iexact H3
    iexact H4
  iexists f
  isplitr
  · ipureintro; intro j hj; have := j.isLt; omega
  rw [owns_whole_eq]
  iexists f; isplitr; · ipureintro; rfl
  iexact Hf

/-- and the invariant gives it back after the last. -/
theorem inv_last (c : Dev nD) (n : ℕ) :
    inv V c n ⊢ (Pipeline.scopedRest (Ix := Unit) (Name := ℕ) (U := UR sig nD τ) (Lvl := ℕ) (Val := Elt F) spec1 c : sProp 𝕄) := by
  refine BIBase.Entails.trans ?_ (Entails.of_eq (scopedRest1_eq c).symm)
  unfold inv others
  simp only [owns_whole_eq]
  iintro ⟨⟨H0, H1, H2, H3, H4⟩, %X, %hX, %f, %hf, Hf⟩
  isplitl [H0]; · iexact H0
  isplitl [H1]; · iexact H1
  isplitl [H2]; · iexact H2
  isplitl [H3]; · iexact H3
  isplitl [H4]; · iexact H4
  iexists f; iexact Hf

end Cert.KernelIdeal.Mlp

end
-- ==== Proof.PI.Run.lean ====
/-
  The program's run: both regions over the contents of the buffers between the program's parts, and every unscoped
  buffer read off at the end.
-/
module

public import proofs.«01_k».proof.Proof.PI.PqRegion
public import proofs.«01_k».proof.Proof.PI.MlpRegion
public import Idealize.ShloMosaic.Lib.Pipeline.Kit

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- What the first region leaves, the other buffers as it found them. -/
def outs₁ : Outs (F := F) := fun _ r c => Function.update (V1 m c) main_v3 (Pq.left (V1 m) c) r

/-- What the two regions leave. -/
def outs : Outs (F := F) := fun J r c => match J with
  | 8 => Function.update (Function.update (V7 m (outs₁ m) c) main_v10_0 (Mlp.leftLogits (V7 m (outs₁ m)) c))
      main_v10_1 (Mlp.leftLoss (V7 m (outs₁ m)) c) r
  | _ => outs₁ m 2 r c

theorem V7_outs : V7 m (outs m) = V7 m (outs₁ m) := rfl

theorem outs_2 (c : Dev nD) : outs m 2 main_v3 c = Pq.left (V1 m) c := by
  show Function.update (V1 m c) (Proc.devRef .tc main_v3) (Pq.left (V1 m) c) (Proc.devRef .tc main_v3) = _
  exact Function.update_self ..
theorem outs_8_0 (c : Dev nD) : outs m 8 main_v10_0 c = Mlp.leftLogits (V7 m (outs m)) c := by
  show Function.update (Function.update (V7 m (outs₁ m) c) (Proc.devRef .tc main_v10_0) _) (Proc.devRef .tc main_v10_1) _
    (Proc.devRef .tc main_v10_0) = _
  rw [Function.update_of_ne (by decide), Function.update_self]; rfl
theorem outs_8_1 (c : Dev nD) : outs m 8 main_v10_1 c = Mlp.leftLoss (V7 m (outs m)) c := by
  show Function.update (Function.update (V7 m (outs₁ m) c) (Proc.devRef .tc main_v10_0) _) (Proc.devRef .tc main_v10_1) _
    (Proc.devRef .tc main_v10_1) = _
  rw [Function.update_self]; rfl

/-- The contents after each region, at the arrays it writes. -/
theorem V2_out (c : Dev nD) : V2 m (outs m) c main_v3 = Pq.left (V1 m) c := by
  rw [← outs_2]
  show Function.update (V1 m c) (Proc.devRef .tc main_v3) (outs m 2 main_v3 c) (Proc.devRef .tc main_v3) = _
  exact Function.update_self ..
theorem V8_out_0 (c : Dev nD) : V8 m (outs m) c main_v10_0 = Mlp.leftLogits (V7 m (outs m)) c := by
  rw [← outs_8_0]
  show Function.update (Function.update (V7 m (outs m) c) (Proc.devRef .tc main_v10_0) (outs m 8 main_v10_0 c)) (Proc.devRef .tc main_v10_1) _
    (Proc.devRef .tc main_v10_0) = _
  rw [Function.update_of_ne (by decide), Function.update_self]
theorem V8_out_1 (c : Dev nD) : V8 m (outs m) c main_v10_1 = Mlp.leftLoss (V7 m (outs m)) c := by
  rw [← outs_8_1]
  show Function.update (Function.update (V7 m (outs m) c) (Proc.devRef .tc main_v10_0) _) (Proc.devRef .tc main_v10_1) (outs m 8 main_v10_1 c)
    (Proc.devRef .tc main_v10_1) = _
  rw [Function.update_self]

/-- Each window's array after the first region is the one the contents after it give. -/
theorem arrays_after_0 (c : Dev nD) (w : Fin 3) : (Pq.dat (V1 m) c).arrAt w cfg0.N = V2 m (outs m) c (Pipeline.arrRef spec0 w) :=
  match w with
  | 0 => ((Pq.dat (V1 m) c).arrAt_in 0 rfl _).trans ((Pq.A_eq (V1 m) c 0).trans (V2_of m (outs m) c main_v2 (by decide)).symm)
  | 1 => ((Pq.dat (V1 m) c).arrAt_in 1 rfl _).trans ((Pq.A_eq (V1 m) c 1).trans (V2_of m (outs m) c main_arg2 (by decide)).symm)
  | 2 => (V2_out m c).symm

/-- Each window's array after the second region is the one the contents after it give. -/
theorem arrays_after_1 (c : Dev nD) (w : Fin 8) : (Mlp.dat (V7 m (outs m)) c).arrAt w cfg1.N = V8 m (outs m) c (Pipeline.arrRef spec1 w) :=
  match w with
  | 0 => ((Mlp.dat (V7 m (outs m)) c).arrAt_in 0 rfl _).trans ((Mlp.A_eq (V7 m (outs m)) c 0).trans (V8_of m (outs m) c main_v3 (by decide)).symm)
  | 1 => ((Mlp.dat (V7 m (outs m)) c).arrAt_in 1 rfl _).trans ((Mlp.A_eq (V7 m (outs m)) c 1).trans (V8_of m (outs m) c main_v4 (by decide)).symm)
  | 2 => ((Mlp.dat (V7 m (outs m)) c).arrAt_in 2 rfl _).trans ((Mlp.A_eq (V7 m (outs m)) c 2).trans (V8_of m (outs m) c main_v8 (by decide)).symm)
  | 3 => ((Mlp.dat (V7 m (outs m)) c).arrAt_in 3 rfl _).trans ((Mlp.A_eq (V7 m (outs m)) c 3).trans (V8_of m (outs m) c main_v5 (by decide)).symm)
  | 4 => ((Mlp.dat (V7 m (outs m)) c).arrAt_in 4 rfl _).trans ((Mlp.A_eq (V7 m (outs m)) c 4).trans (V8_of m (outs m) c main_v7 (by decide)).symm)
  | 5 => ((Mlp.dat (V7 m (outs m)) c).arrAt_in 5 rfl _).trans ((Mlp.A_eq (V7 m (outs m)) c 5).trans (V8_of m (outs m) c main_v9 (by decide)).symm)
  | 6 => (V8_out_0 m c).symm
  | 7 => (V8_out_1 m c).symm

/-! ## The regions' records -/

/-- The two pipelines' proof data. -/
def pdats : (p : Fin 2) → (c : Dev nD) → Dat τ (Elt F) Unit ℕ (UR sig nD τ) ℕ (cfgs p) c
  | ⟨0, _⟩ => fun c => Pq.dat (V1 m) c
  | ⟨1, _⟩ => fun c => Mlp.dat (V7 m (outs m)) c

abbrev L : GSem nD τ sig → Finset Unit := fun _ => ∅
abbrev lv : GSem nD τ sig → Unit → ℕ := fun _ _ => 0

/-- What a core holds beside its buffers: it owes nothing. -/
abbrev Rest (c : Dev nD) : sProp 𝕄 := iprop(∃ W, owes (c : Thread nD τ) (0 : CellTallies nD τ sig Unit) W)

set_option backward.isDefEq.respectTransparency.types false in
/-- The first region, from the contents before it to the contents after. -/
def R0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Pq.body_obligation (V1 m) c).loose
  hwaits := Pipeline.hwaits_of_owed_zero _ _ _ _ L lv 0 fun _ _ => rfl
  pre c := iprop(unscopedBufs c (fun b => V1 m c b) ∗ Rest c)
  post c := iprop(unscopedBufs c (fun b => V2 m (outs m) c b) ∗ Rest c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c
      (pdats m) ((pdats m 0 c).share_full fun _ => rfl) (fun b => V1 m c b) (fun b => V2 m (outs m) c b) ((pdats m 0 c).arrAt · cfg0.N)
      (arrays_after_0 m c)
      (fun b hb => V2_of m (outs m) c b fun h => hb (by
        rw [List.mem_singleton.mp h]; exact Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second region, from the contents before it to the contents after. -/
def R1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Mlp.body_obligation (V7 m (outs m)) c).loose
  hwaits := Pipeline.hwaits_of_owed_zero _ _ _ _ L lv 1 fun _ _ => rfl
  pre c := iprop(unscopedBufs c (fun b => V7 m (outs m) c b) ∗ Rest c)
  post c := iprop(unscopedBufs c (fun b => V8 m (outs m) c b) ∗ Rest c)
  X _ := BI.emp
  Y _ := BI.emp
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Mlp.inv (V7 m (outs m)) c 0 from rfl]
    iintro ⟨-, -, Hr⟩
    iapply (Mlp.inv_first (V7 m (outs m)) c); iexact Hr
  hout c := by
    rw [Pipeline.ownSems0_none, show (pdats m 1 c).Φ (Fin.last _) = Mlp.inv (V7 m (outs m)) c cfg1.N from rfl]
    iintro Hr
    isplitr; · iempintro
    isplitr; · iempintro
    iapply (Mlp.inv_last (V7 m (outs m)) c _); iexact Hr
  hexit c := by
    have hjoin := Pipeline.unscopedBufs_of_arrays (p := 1) (pcfgs (F := F)) adm (Ix := Unit) (Name := ℕ) (U := UR sig nD τ) (Lvl := ℕ)
      launch1.win launch1.arr_whole c
      (pdats m) ((pdats m 1 c).share_full fun _ => rfl) (fun b => V7 m (outs m) c b) (fun b => V8 m (outs m) c b) ((pdats m 1 c).arrAt · cfg1.N)
      (arrays_after_1 m c)
      (fun b hb => V8_of m (outs m) c b fun h => hb (by
        rcases List.mem_cons.mp h with h | h
        · rw [h]; exact Finset.mem_image.mpr ⟨6, Finset.mem_univ _, rfl⟩
        · rw [List.mem_singleton.mp h]; exact Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- The rest the launch hands each core. -/
theorem rest_first :
    (iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts L lv) : sProp 𝕄)
      ⊢ |={Set.univ}=> bigSep Finset.univ fun c : Dev nD => Rest c := by
  refine BIBase.Entails.trans ?_ fupd_intro
  have hc : ∀ c : Dev nD, (iprop(unscopedSems0 c ∗ owes (c : Thread nD τ) (0 : CellTallies nD τ sig Unit) ∅
      ∗ Pipeline.launchCred (fun _ => 0) c ∗ prngReg c (ρ c) ∗ BI.emp) : sProp 𝕄) ⊢ Rest c := fun c => by
    iintro ⟨-, HO, -, -, -⟩
    iexists ∅; iexact HO
  have hall : (bigSep Finset.univ fun c : Dev nD => iprop(unscopedSems0 c ∗ owes (c : Thread nD τ) (0 : CellTallies nD τ sig Unit) ∅
      ∗ Pipeline.launchCred (fun _ => 0) c ∗ prngReg c (ρ c) ∗ BI.emp) : sProp 𝕄) ⊢ bigSep Finset.univ fun c : Dev nD => Rest c :=
    bigSep_mono fun c _ => hc c
  iintro ⟨H, -⟩
  iapply hall; iexact H

set_option backward.isDefEq.respectTransparency.types false in
/-- Every fair execution of the program from zero counters terminates with every unscoped buffer at the contents the
    program's parts leave one after the other, and every semaphore counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = V9 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ c => Rest c) () (pdats m) (R0 m) (R1 m))
    (fun c Q => by
      rewrite [main_chain c, Seg.run_eq_chain,
        show (segs m (outs m) Variants.none L lv (fun _ c => Rest c) () (pdats m) (R0 m) (R1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (V9 m (outs m) c))
    (hch := fun c => ⟨.rfl, ?_, ?_, .rfl, .rfl, .rfl, .rfl, ?_, ?_, .rfl⟩)
    (hinit := ?_) (QY := fun c s => ∀ b ∈ Pipeline.ucRefs τ sig, s.mem ((c : Thread nD τ).1, b) = V9 m (outs m) c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    rw [show (bigSep Finset.univ fun _ : Dev nD => (BI.emp : sProp 𝕄)) = iprop(emp) from bigSep_emp_const _]; iempintro
  · exact sep_mono (Entails.of_eq (Pipeline.unscopedBufs_held c (V1 m c)).symm) .rfl
  · exact sep_mono (Entails.of_eq (Pipeline.unscopedBufs_held c (V2 m (outs m) c))) .rfl
  · exact sep_mono (Entails.of_eq (Pipeline.unscopedBufs_held c (V7 m (outs m) c)).symm) .rfl
  · exact sep_mono (Entails.of_eq (Pipeline.unscopedBufs_held c (V8 m (outs m) c))) .rfl
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ BI.emp)) : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_first ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro; exact h
    · iexact HSI

/-- A buffer of the TensorCore that no kernel scopes ends at those contents. -/
theorem read_end {r : PUnit × MemSt nD τ sig (Elt F)} (h : ∀ c : Dev nD, ∀ b ∈ Pipeline.ucRefs τ sig, r.2.mem ((c : Thread nD τ).1, b) = V9 m (outs m) c b)
    (c : Dev nD) (b : Ref sig .tc) (hb : ¬ (Proc.devRef (τ := τ) .tc b).isScoped) :
    r.2.mem ((c.tc : Thread nD τ).loc b) = V9 m (outs m) c b :=
  h c (Proc.devRef .tc b) (Finset.mem_filter.mpr ⟨StableHlo.devRef_mem_tcRefs b, hb⟩)

/-- Each argument ends as launched. -/
theorem args_end {r : PUnit × MemSt nD τ sig (Elt F)} (h : ∀ c : Dev nD, ∀ b ∈ Pipeline.ucRefs τ sig, r.2.mem ((c : Thread nD τ).1, b) = V9 m (outs m) c b)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
    ⟨(read_end m h c main_arg0 (by decide)).trans (V9_main_arg0 m (outs m) c),
     (read_end m h c main_arg1 (by decide)).trans (V9_main_arg1 m (outs m) c),
     (read_end m h c main_arg2 (by decide)).trans (V9_main_arg2 m (outs m) c),
     (read_end m h c main_arg3 (by decide)).trans (V9_main_arg3 m (outs m) c),
     (read_end m h c main_arg4 (by decide)).trans (V9_main_arg4 m (outs m) c),
     (read_end m h c main_arg5 (by decide)).trans (V9_main_arg5 m (outs m) c),
     (read_end m h c main_arg6 (by decide)).trans (V9_main_arg6 m (outs m) c)⟩

/-- The frame: each argument ends as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_end m h.1, h.2⟩) (run m ρ)

end Cert.KernelIdeal.Whole

end
-- ==== Proof.RI.Run.lean ====
/-
  The reference's run, stated by hand: its operations in six stretches, what each stretch leaves in the buffer the later
  ones read, and the whole run with every argument unchanged.
-/
module

public import proofs.«01_k».proof.Proof.Gen.ReferenceIdeal
public import Idealize.ShloMosaic.Lib.StableHlo.Run
public import Idealize.ShloMosaic.Lib.StableHlo.RunLoop
public import Idealize.ShloMosaic.Lib.Quiescent

@[expose] public section

set_option maxRecDepth 16384
set_option maxHeartbeats 2000000

noncomputable section

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

/-! ## The reference's mathematics, stage by stage -/

/-- The input's channels as cells: row (image, height, width), sub-space, coordinate. -/
def cells (x : Vec F S1024x1024x2x2 .f32) : Vec F S4096x32x32 .f32 :=
  shapeCast S4096x32x32 (shapeCast S4096x1024
    (transpose S1024x2x2x1024 [0, 2, 3, 1] x transposes_S1024x1024x2x2_S1024x2x2x1024_0_2_3_1)
    shapeCasts_S1024x2x2x1024_S4096x1024) shapeCasts_S4096x1024_S4096x32x32

/-- The squared distance of every cell to every code word of its sub-space. -/
def dist (z : Vec F S4096x32x32 .f32) (cb : Vec F S32x256x32 .f32) : Vec F S4096x32x256 .f32 :=
  addf (subf (broadcastInDim S4096x32x256 ![0, 1, 2] bcast_S4096x32x1_S4096x32x256_0_1_2
      (broadcastInDim S4096x32x1 ![0, 1] bcast_S4096x32_S4096x32x1_0_1
        (Host.reduceAdd (mulf z z) (constant S_ .f32 0x00000000#32) reducesTo_S4096x32x32_S4096x32_d2 h_S_)))
    (mulf (broadcastInDim S4096x32x256 ![] bcast_S_S4096x32x256 (constant S_ .f32 0x40000000#32))
      (transpose S4096x32x256 [2, 0, 1]
        (Host.dotGeneral dot_S32x256x32_S4096x32x32_S32x256x4096_2_2_1_0_0_1 none cb z : Vec F S32x256x4096 .f32)
        transposes_S32x256x4096_S4096x32x256_2_0_1)))
    (broadcastInDim S4096x32x256 ![0, 1, 2] bcast_S1x32x256_S4096x32x256_0_1_2
      (broadcastInDim S1x32x256 ![1, 2] bcast_S32x256_S1x32x256_1_2
        (Host.reduceAdd (mulf cb cb) (constant S_ .f32 0x00000000#32) reducesTo_S32x256x32_S32x256_d2 h_S_)))

/-- The least distance and the index at which it is first met. -/
def least (d : Vec F S4096x32x256 .f32) : S4096x32.Idx → F .f32 × BitVec 32 :=
  Host.argReduce reducer_argmin_f32_i32 d (iotaInDim S4096x32x256 32 2) (constant S_ .f32 0x7F800000#32)
    (constantI S_ 32 0#32) reducesTo_S4096x32x256_S4096x32_d2 h_S_

/-- The index of the nearest code word. -/
def nearest (d : Vec F S4096x32x256 .f32) : Vec F S4096x32 .i32 := fun j => (least d j).2

/-- The sub-space's number, a negative one counted from the end. -/
def spaceNo : Vec F S1x32 .i32 :=
  select (cmpi .slt (broadcastInDim S1x32 ![1] bcast_S32_S1x32_1 (iotaInDim S32 32 0))
      (broadcastInDim S1x32 ![] bcast_S_S1x32 (constantI S_ 32 0#32)))
    (addi (broadcastInDim S1x32 ![1] bcast_S32_S1x32_1 (iotaInDim S32 32 0))
      (broadcastInDim S1x32 ![] bcast_S_S1x32 (constantI S_ 32 32#32)))
    (broadcastInDim S1x32 ![1] bcast_S32_S1x32_1 (iotaInDim S32 32 0))

/-- The code word's number, a negative one counted from the end. -/
def wordNo (k : Vec F S4096x32 .i32) : Vec F S4096x32 .i32 :=
  select (cmpi .slt k (broadcastInDim S4096x32 ![] bcast_S_S4096x32 (constantI S_ 32 0#32)))
    (addi k (broadcastInDim S4096x32 ![] bcast_S_S4096x32 (constantI S_ 32 256#32))) k

/-- The pairs (sub-space, code word) at which the codebook is read. -/
def places (k : Vec F S4096x32 .i32) : Vec F S4096x32x2 .i32 :=
  concatenate S4096x32x2 2
    [⟨S4096x32x1, broadcastInDim S4096x32x1 ![0, 1] bcast_S4096x32_S4096x32x1_0_1
        (broadcastInDim S4096x32 ![0, 1] bcast_S1x32_S4096x32_0_1 (spaceNo (F := F)))⟩,
     ⟨S4096x32x1, broadcastInDim S4096x32x1 ![0, 1] bcast_S4096x32_S4096x32x1_0_1 (wordNo (F := F) k)⟩]
    concatenates_S4096x32x1_S4096x32x1_S4096x32x2_d2

/-- The chosen code words, one per cell. -/
def words (cb : Vec F S32x256x32 .f32) (k : Vec F S4096x32 .i32) : Vec F S4096x32x32 .f32 :=
  Host.gather gather_S32x256x32_S4096x32x2_S4096x32x32_2_01_n_n_01_2_1132 cb (places (F := F) k)

/-- The cells laid out as the hidden layer's rows: image, then channel, height, width. -/
def flat (w : Vec F S4096x32x32 .f32) : Vec F S1024x4096 .f32 :=
  shapeCast S1024x4096 (transpose S1024x1024x2x2 [0, 3, 1, 2]
    (shapeCast S1024x2x2x1024 (shapeCast S4096x1024 w shapeCasts_S4096x32x32_S4096x1024)
      shapeCasts_S4096x1024_S1024x2x2x1024)
    transposes_S1024x2x2x1024_S1024x1024x2x2_0_3_1_2) shapeCasts_S1024x1024x2x2_S1024x4096

/-- The hidden layer. -/
def hidden (f : Vec F S1024x4096 .f32) (W₁ : Vec F S4096x4096 .f32) (b₁ : Vec F S4096 .f32) : Vec F S1024x4096 .f32 :=
  maximumf (addf (Host.dotGeneral dot_S1024x4096_S4096x4096_S1024x4096_1_0_0_1_n_n none f W₁ : Vec F S1024x4096 .f32)
      (broadcastInDim S1024x4096 ![0, 1] bcast_S1x4096_S1024x4096_0_1 (broadcastInDim S1x4096 ![1] bcast_S4096_S1x4096_1 b₁)))
    (broadcastInDim S1024x4096 ![] bcast_S_S1024x4096 (constant S_ .f32 0x00000000#32))

/-- The logits. -/
def logits (h : Vec F S1024x4096 .f32) (W₂ : Vec F S4096x100 .f32) (b₂ : Vec F S100 .f32) : Vec F S1024x100 .f32 :=
  addf (Host.dotGeneral dot_S1024x4096_S4096x100_S1024x100_1_0_0_1_n_n none h W₂ : Vec F S1024x100 .f32)
    (broadcastInDim S1024x100 ![0, 1] bcast_S1x100_S1024x100_0_1 (broadcastInDim S1x100 ![1] bcast_S100_S1x100_1 b₂))

/-- The logits less their row's greatest. -/
def centred (l : Vec F S1024x100 .f32) : Vec F S1024x100 .f32 :=
  subf l (broadcastInDim S1024x100 ![0, 1] bcast_S1024x1_S1024x100_0_1 (broadcastInDim S1024x1 ![0] bcast_S1024_S1024x1_0
    (maximumf (broadcastInDim S1024 ![] bcast_S_S1024 (constant S_ .f32 0xFF800000#32))
      (Host.reduce FloatOps.maximumf l (constant S_ .f32 0xFF800000#32) reducesTo_S1024x100_S1024_d1 h_S_))))

/-- The log-softmax of the logits. -/
def logp (l : Vec F S1024x100 .f32) : Vec F S1024x100 .f32 :=
  subf (centred l) (broadcastInDim S1024x100 ![0, 1] bcast_S1024x1_S1024x100_0_1
    (Host.log (broadcastInDim S1024x1 ![0] bcast_S1024_S1024x1_0
      (Host.reduceAdd (Host.exp (centred l)) (constant S_ .f32 0x00000000#32) reducesTo_S1024x100_S1024_d1 h_S_))))

/-- The labels as a column of class numbers, a negative one counted from the end. -/
def classNo (y : Vec F S1024 .i32) : Vec F S1024x1x1 .i32 :=
  shapeCast S1024x1x1
    (select (cmpi .slt (broadcastInDim S1024x1 ![0] bcast_S1024_S1024x1_0 y)
        (broadcastInDim S1024x1 ![] bcast_S_S1024x1 (constantI S_ 32 0#32)))
      (addi (broadcastInDim S1024x1 ![0] bcast_S1024_S1024x1_0 y)
        (broadcastInDim S1024x1 ![] bcast_S_S1024x1 (constantI S_ 32 100#32)))
      (broadcastInDim S1024x1 ![0] bcast_S1024_S1024x1_0 y)) shapeCasts_S1024x1_S1024x1x1

/-- Whether the class number names a class. -/
def classOk (i : Vec F S1024x1x1 .i32) : Vec F S1024x1 .i1 :=
  Host.reduce IntOp.andi
    (andi (cmpi .sge i (broadcastInDim S1024x1x1 ![] bcast_S_S1024x1x1 (constantI S_ 32 0#32)))
      (cmpi .sle i (broadcastInDim S1024x1x1 ![0, 1, 2] bcast_S1x1x1_S1024x1x1_0_1_2
        (broadcastInDim S1x1x1 ![2] bcast_S1_S1x1x1_2 (constantI S1 32 99#32)))))
    (constantI S_ 1 1#1) reducesTo_S1024x1x1_S1024x1_d2 h_S_

/-- The log-probability of each row's label. -/
def taken (p : Vec F S1024x100 .f32) (y : Vec F S1024 .i32) : Vec F S1024x1 .f32 :=
  select (classOk (F := F) (classNo (F := F) y))
    (Host.gather gather_S1024x100_S1024x1x1_S1024x1_n_1_0_0_1_2_11 p (classNo (F := F) y))
    (broadcastInDim S1024x1 ![] bcast_S_S1024x1 (constant S_ .f32 0x7FC00000#32))

/-- The mean of the negated log-probabilities. -/
def mean (t : Vec F S1024x1 .f32) : Vec F S_ .f32 :=
  Host.divf (Host.reduceAdd (Host.negf (shapeCast S1024 t shapeCasts_S1024x1_S1024)) (constant S_ .f32 0x00000000#32)
    reducesTo_S1024_S_d0 h_S_) (constant S_ .f32 0x44800000#32)

/-! ## The operations -/

/-- The operations that compute the distances of every cell to every code word, and the index of the nearest one. -/
abbrev opsCodes : List (HloOp τ sig (Elt F)) :=
  [unary main_arg0 main_v0 ((transpose S1024x2x2x1024 [0, 2, 3, 1] · transposes_S1024x1024x2x2_S1024x2x2x1024_0_2_3_1) : (⟨S1024x1024x2x2, .f32⟩ : BufTy).Contents (Elt F) → (⟨S1024x2x2x1024, .f32⟩ : BufTy).Contents (Elt F)),
   reshape main_v0 main_v1 (rfl : (.f32 : EltTy) = .f32) shapeCasts_S1024x2x2x1024_S4096x1024,
   reshape main_v1 main_v2 (rfl : (.f32 : EltTy) = .f32) shapeCasts_S4096x1024_S4096x32x32,
   binary main_arg2 main_v2 main_v3 ((fun l r => Host.dotGeneral dot_S32x256x32_S4096x32x32_S32x256x4096_2_2_1_0_0_1 none l r) : (⟨S32x256x32, .f32⟩ : BufTy).Contents (Elt F) → (⟨S4096x32x32, .f32⟩ : BufTy).Contents (Elt F) → (⟨S32x256x4096, .f32⟩ : BufTy).Contents (Elt F)),
   unary main_v3 main_v4 ((transpose S4096x32x256 [2, 0, 1] · transposes_S32x256x4096_S4096x32x256_2_0_1) : (⟨S32x256x4096, .f32⟩ : BufTy).Contents (Elt F) → (⟨S4096x32x256, .f32⟩ : BufTy).Contents (Elt F)),
   binary main_v2 main_v2 main_v5 (mulf : (⟨S4096x32x32, .f32⟩ : BufTy).Contents (Elt F) → (⟨S4096x32x32, .f32⟩ : BufTy).Contents (Elt F) → (⟨S4096x32x32, .f32⟩ : BufTy).Contents (Elt F)),
   nullary main_cst (constant S_ .f32 0x00000000#32),
   binary main_v5 main_cst main_v6 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
   unary main_v6 main_v7 (broadcastInDim S4096x32x1 ![0, 1] bcast_S4096x32_S4096x32x1_0_1 : (⟨S4096x32, .f32⟩ : BufTy).Contents (Elt F) → (⟨S4096x32x1, .f32⟩ : BufTy).Contents (Elt F)),
   binary main_arg2 main_arg2 main_v8 (mulf : (⟨S32x256x32, .f32⟩ : BufTy).Contents (Elt F) → (⟨S32x256x32, .f32⟩ : BufTy).Contents (Elt F) → (⟨S32x256x32, .f32⟩ : BufTy).Contents (Elt F)),
   nullary main_cst_0 (constant S_ .f32 0x00000000#32),
   binary main_v8 main_cst_0 main_v9 ((fun x v => Host.reduceAdd x v reducesTo_S32x256x32_S32x256_d2 h_S_) : (⟨S32x256x32, .f32⟩ : BufTy).Contents (Elt F) → (⟨S_, .f32⟩ : BufTy).Contents (Elt F) → (⟨S32x256, .f32⟩ : BufTy).Contents (Elt F)),
   unary main_v9 main_v10 (broadcastInDim S1x32x256 ![1, 2] bcast_S32x256_S1x32x256_1_2 : (⟨S32x256, .f32⟩ : BufTy).Contents (Elt F) → (⟨S1x32x256, .f32⟩ : BufTy).Contents (Elt F)),
   nullary main_cst_1 (constant S_ .f32 0x40000000#32),
   unary main_cst_1 main_v11 (broadcastInDim S4096x32x256 ![] bcast_S_S4096x32x256 : (⟨S_, .f32⟩ : BufTy).Contents (Elt F) → (⟨S4096x32x256, .f32⟩ : BufTy).Contents (Elt F)),
   binary main_v11 main_v4 main_v12 (mulf : (⟨S4096x32x256, .f32⟩ : BufTy).Contents (Elt F) → (⟨S4096x32x256, .f32⟩ : BufTy).Contents (Elt F) → (⟨S4096x32x256, .f32⟩ : BufTy).Contents (Elt F)),
   unary main_v7 main_v13 (broadcastInDim S4096x32x256 ![0, 1, 2] bcast_S4096x32x1_S4096x32x256_0_1_2 : (⟨S4096x32x1, .f32⟩ : BufTy).Contents (Elt F) → (⟨S4096x32x256, .f32⟩ : BufTy).Contents (Elt F)),
   binary main_v13 main_v12 main_v14 (subf : (⟨S4096x32x256, .f32⟩ : BufTy).Contents (Elt F) → (⟨S4096x32x256, .f32⟩ : BufTy).Contents (Elt F) → (⟨S4096x32x256, .f32⟩ : BufTy).Contents (Elt F)),
   unary main_v10 main_v15 (broadcastInDim S4096x32x256 ![0, 1, 2] bcast_S1x32x256_S4096x32x256_0_1_2 : (⟨S1x32x256, .f32⟩ : BufTy).Contents (Elt F) → (⟨S4096x32x256, .f32⟩ : BufTy).Contents (Elt F)),
   binary main_v14 main_v15 main_v16 (addf : (⟨S4096x32x256, .f32⟩ : BufTy).Contents (Elt F) → (⟨S4096x32x256, .f32⟩ : BufTy).Contents (Elt F) → (⟨S4096x32x256, .f32⟩ : BufTy).Contents (Elt F)),
   nullary main_call0_v0 (iotaInDim S4096x32x256 32 2),
   nullary main_call0_cst (constant S_ .f32 0x7F800000#32),
   nullary main_call0_c (constantI S_ 32 0#32),
   quaternary main_v16 main_call0_v0 main_call0_cst main_call0_c main_call0_v1_0 (fun x y u v j => (Host.argReduce reducer_argmin_f32_i32 x y u v reducesTo_S4096x32x256_S4096x32_d2 h_S_ j).1),
   quaternary main_v16 main_call0_v0 main_call0_cst main_call0_c main_v17 (fun x y u v j => (Host.argReduce reducer_argmin_f32_i32 x y u v reducesTo_S4096x32x256_S4096x32_d2 h_S_ j).2)]

theorem opsCodes_sub : (opsCodes (F := F)).Forall fun op => op.bufs ⊆ tcRefs τ sig :=
  ⟨unary_bufs_sub .., reshape_bufs_sub .., reshape_bufs_sub .., binary_bufs_sub .., unary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub ..⟩

theorem opsCodes_fresh : ∀ op ∈ opsCodes (F := F), op.fresh = ∅ := by
  intro _ h; (repeat (cases h with | head => rfl | tail _ h => ?_)); exact nomatch h

/-- The operations that compute the code words picked by the indices, laid out as the rows of the hidden layer's operand. -/
abbrev opsPick : List (HloOp τ sig (Elt F)) :=
  [nullary main_v18 (iotaInDim S32 32 0),
   unary main_v18 main_v19 (broadcastInDim S1x32 ![1] bcast_S32_S1x32_1 : (⟨S32, .i32⟩ : BufTy).Contents (Elt F) → (⟨S1x32, .i32⟩ : BufTy).Contents (Elt F)),
   nullary main_c (constantI S_ 32 0#32),
   unary main_c main_v20 (broadcastInDim S1x32 ![] bcast_S_S1x32 : (⟨S_, .i32⟩ : BufTy).Contents (Elt F) → (⟨S1x32, .i32⟩ : BufTy).Contents (Elt F)),
   binary main_v19 main_v20 main_v21 (cmpi .slt : (⟨S1x32, .i32⟩ : BufTy).Contents (Elt F) → (⟨S1x32, .i32⟩ : BufTy).Contents (Elt F) → (⟨S1x32, .i1⟩ : BufTy).Contents (Elt F)),
   nullary main_c_2 (constantI S_ 32 32#32),
   unary main_c_2 main_v22 (broadcastInDim S1x32 ![] bcast_S_S1x32 : (⟨S_, .i32⟩ : BufTy).Contents (Elt F) → (⟨S1x32, .i32⟩ : BufTy).Contents (Elt F)),
   binary main_v19 main_v22 main_v23 (addi : (⟨S1x32, .i32⟩ : BufTy).Contents (Elt F) → (⟨S1x32, .i32⟩ : BufTy).Contents (Elt F) → (⟨S1x32, .i32⟩ : BufTy).Contents (Elt F)),
   ternary main_v21 main_v23 main_v19 main_v24 (select : (⟨S1x32, .i1⟩ : BufTy).Contents (Elt F) → (⟨S1x32, .i32⟩ : BufTy).Contents (Elt F) → (⟨S1x32, .i32⟩ : BufTy).Contents (Elt F) → (⟨S1x32, .i32⟩ : BufTy).Contents (Elt F)),
   nullary main_c_3 (constantI S_ 32 0#32),
   unary main_c_3 main_v25 (broadcastInDim S4096x32 ![] bcast_S_S4096x32 : (⟨S_, .i32⟩ : BufTy).Contents (Elt F) → (⟨S4096x32, .i32⟩ : BufTy).Contents (Elt F)),
   binary main_v17 main_v25 main_v26 (cmpi .slt : (⟨S4096x32, .i32⟩ : BufTy).Contents (Elt F) → (⟨S4096x32, .i32⟩ : BufTy).Contents (Elt F) → (⟨S4096x32, .i1⟩ : BufTy).Contents (Elt F)),
   nullary main_c_4 (constantI S_ 32 256#32),
   unary main_c_4 main_v27 (broadcastInDim S4096x32 ![] bcast_S_S4096x32 : (⟨S_, .i32⟩ : BufTy).Contents (Elt F) → (⟨S4096x32, .i32⟩ : BufTy).Contents (Elt F)),
   binary main_v17 main_v27 main_v28 (addi : (⟨S4096x32, .i32⟩ : BufTy).Contents (Elt F) → (⟨S4096x32, .i32⟩ : BufTy).Contents (Elt F) → (⟨S4096x32, .i32⟩ : BufTy).Contents (Elt F)),
   ternary main_v26 main_v28 main_v17 main_v29 (select : (⟨S4096x32, .i1⟩ : BufTy).Contents (Elt F) → (⟨S4096x32, .i32⟩ : BufTy).Contents (Elt F) → (⟨S4096x32, .i32⟩ : BufTy).Contents (Elt F) → (⟨S4096x32, .i32⟩ : BufTy).Contents (Elt F)),
   unary main_v24 main_v30 (broadcastInDim S4096x32 ![0, 1] bcast_S1x32_S4096x32_0_1 : (⟨S1x32, .i32⟩ : BufTy).Contents (Elt F) → (⟨S4096x32, .i32⟩ : BufTy).Contents (Elt F)),
   unary main_v30 main_v31 (broadcastInDim S4096x32x1 ![0, 1] bcast_S4096x32_S4096x32x1_0_1 : (⟨S4096x32, .i32⟩ : BufTy).Contents (Elt F) → (⟨S4096x32x1, .i32⟩ : BufTy).Contents (Elt F)),
   unary main_v29 main_v32 (broadcastInDim S4096x32x1 ![0, 1] bcast_S4096x32_S4096x32x1_0_1 : (⟨S4096x32, .i32⟩ : BufTy).Contents (Elt F) → (⟨S4096x32x1, .i32⟩ : BufTy).Contents (Elt F)),
   binary main_v31 main_v32 main_v33 ((fun a b => concatenate S4096x32x2 2 [⟨S4096x32x1, a⟩, ⟨S4096x32x1, b⟩] concatenates_S4096x32x1_S4096x32x1_S4096x32x2_d2) : (⟨S4096x32x1, .i32⟩ : BufTy).Contents (Elt F) → (⟨S4096x32x1, .i32⟩ : BufTy).Contents (Elt F) → (⟨S4096x32x2, .i32⟩ : BufTy).Contents (Elt F)),
   binary main_arg2 main_v33 main_v34 ((fun x i => Host.gather gather_S32x256x32_S4096x32x2_S4096x32x32_2_01_n_n_01_2_1132 x i) : (⟨S32x256x32, .f32⟩ : BufTy).Contents (Elt F) → (⟨S4096x32x2, .i32⟩ : BufTy).Contents (Elt F) → (⟨S4096x32x32, .f32⟩ : BufTy).Contents (Elt F)),
   reshape main_v34 main_v35 (rfl : (.f32 : EltTy) = .f32) shapeCasts_S4096x32x32_S4096x1024,
   reshape main_v35 main_v36 (rfl : (.f32 : EltTy) = .f32) shapeCasts_S4096x1024_S1024x2x2x1024,
   unary main_v36 main_v37 ((transpose S1024x1024x2x2 [0, 3, 1, 2] · transposes_S1024x2x2x1024_S1024x1024x2x2_0_3_1_2) : (⟨S1024x2x2x1024, .f32⟩ : BufTy).Contents (Elt F) → (⟨S1024x1024x2x2, .f32⟩ : BufTy).Contents (Elt F)),
   reshape main_v37 main_v38 (rfl : (.f32 : EltTy) = .f32) shapeCasts_S1024x1024x2x2_S1024x4096]

theorem opsPick_sub : (opsPick (F := F)).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., reshape_bufs_sub .., reshape_bufs_sub .., unary_bufs_sub .., reshape_bufs_sub ..⟩

theorem opsPick_fresh : ∀ op ∈ opsPick (F := F), op.fresh = ∅ := by
  intro _ h; (repeat (cases h with | head => rfl | tail _ h => ?_)); exact nomatch h

/-- The operations that compute the two dense layers. -/
abbrev opsMlp : List (HloOp τ sig (Elt F)) :=
  [binary main_v38 main_arg3 main_v39 ((fun l r => Host.dotGeneral dot_S1024x4096_S4096x4096_S1024x4096_1_0_0_1_n_n none l r) : (⟨S1024x4096, .f32⟩ : BufTy).Contents (Elt F) → (⟨S4096x4096, .f32⟩ : BufTy).Contents (Elt F) → (⟨S1024x4096, .f32⟩ : BufTy).Contents (Elt F)),
   unary main_arg4 main_v40 (broadcastInDim S1x4096 ![1] bcast_S4096_S1x4096_1 : (⟨S4096, .f32⟩ : BufTy).Contents (Elt F) → (⟨S1x4096, .f32⟩ : BufTy).Contents (Elt F)),
   unary main_v40 main_v41 (broadcastInDim S1024x4096 ![0, 1] bcast_S1x4096_S1024x4096_0_1 : (⟨S1x4096, .f32⟩ : BufTy).Contents (Elt F) → (⟨S1024x4096, .f32⟩ : BufTy).Contents (Elt F)),
   binary main_v39 main_v41 main_v42 (addf : (⟨S1024x4096, .f32⟩ : BufTy).Contents (Elt F) → (⟨S1024x4096, .f32⟩ : BufTy).Contents (Elt F) → (⟨S1024x4096, .f32⟩ : BufTy).Contents (Elt F)),
   nullary main_call1_cst (constant S_ .f32 0x00000000#32),
   unary main_call1_cst main_call1_v0 (broadcastInDim S1024x4096 ![] bcast_S_S1024x4096),
   binary main_v42 main_call1_v0 main_v43 maximumf,
   binary main_v43 main_arg5 main_v44 ((fun l r => Host.dotGeneral dot_S1024x4096_S4096x100_S1024x100_1_0_0_1_n_n none l r) : (⟨S1024x4096, .f32⟩ : BufTy).Contents (Elt F) → (⟨S4096x100, .f32⟩ : BufTy).Contents (Elt F) → (⟨S1024x100, .f32⟩ : BufTy).Contents (Elt F)),
   unary main_arg6 main_v45 (broadcastInDim S1x100 ![1] bcast_S100_S1x100_1 : (⟨S100, .f32⟩ : BufTy).Contents (Elt F) → (⟨S1x100, .f32⟩ : BufTy).Contents (Elt F)),
   unary main_v45 main_v46 (broadcastInDim S1024x100 ![0, 1] bcast_S1x100_S1024x100_0_1 : (⟨S1x100, .f32⟩ : BufTy).Contents (Elt F) → (⟨S1024x100, .f32⟩ : BufTy).Contents (Elt F)),
   binary main_v44 main_v46 main_v47 (addf : (⟨S1024x100, .f32⟩ : BufTy).Contents (Elt F) → (⟨S1024x100, .f32⟩ : BufTy).Contents (Elt F) → (⟨S1024x100, .f32⟩ : BufTy).Contents (Elt F))]

theorem opsMlp_sub : (opsMlp (F := F)).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsMlp_fresh : ∀ op ∈ opsMlp (F := F), op.fresh = ∅ := by
  intro _ h; (repeat (cases h with | head => rfl | tail _ h => ?_)); exact nomatch h

/-- The operations that compute the log-softmax of the logits. -/
abbrev opsLogp : List (HloOp τ sig (Elt F)) :=
  [nullary main_call2_cst (constant S_ .f32 0xFF800000#32),
   binary main_v47 main_call2_cst main_call2_v0 (fun x v => Host.reduce FloatOps.maximumf x v reducesTo_S1024x100_S1024_d1 h_S_),
   nullary main_call2_cst_0 (constant S_ .f32 0xFF800000#32),
   unary main_call2_cst_0 main_call2_v1 (broadcastInDim S1024 ![] bcast_S_S1024),
   binary main_call2_v1 main_call2_v0 main_call2_v2 maximumf,
   unary main_call2_v2 main_call2_v3 (broadcastInDim S1024x1 ![0] bcast_S1024_S1024x1_0),
   unary main_call2_v3 main_call2_v4 (broadcastInDim S1024x100 ![0, 1] bcast_S1024x1_S1024x100_0_1),
   binary main_v47 main_call2_v4 main_call2_v5 subf,
   unary main_call2_v5 main_call2_v6 Host.exp,
   nullary main_call2_cst_1 (constant S_ .f32 0x00000000#32),
   binary main_call2_v6 main_call2_cst_1 main_call2_v7 (fun x v => Host.reduceAdd x v reducesTo_S1024x100_S1024_d1 h_S_),
   unary main_call2_v7 main_call2_v8 (broadcastInDim S1024x1 ![0] bcast_S1024_S1024x1_0),
   unary main_call2_v8 main_call2_v9 Host.log,
   unary main_call2_v9 main_call2_v10 (broadcastInDim S1024x100 ![0, 1] bcast_S1024x1_S1024x100_0_1),
   binary main_call2_v5 main_call2_v10 main_v48 subf]

theorem opsLogp_sub : (opsLogp (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsLogp_fresh : ∀ op ∈ opsLogp (F := F), op.fresh = ∅ := by
  intro _ h; (repeat (cases h with | head => rfl | tail _ h => ?_)); exact nomatch h

/-- The operations that compute the log-probability of each row's label. -/
abbrev opsTake : List (HloOp τ sig (Elt F)) :=
  [unary main_arg1 main_v49 (broadcastInDim S1024x1 ![0] bcast_S1024_S1024x1_0 : (⟨S1024, .i32⟩ : BufTy).Contents (Elt F) → (⟨S1024x1, .i32⟩ : BufTy).Contents (Elt F)),
   nullary main_call3_c (constantI S_ 32 0#32),
   unary main_call3_c main_call3_v0 (broadcastInDim S1024x1 ![] bcast_S_S1024x1),
   binary main_v49 main_call3_v0 main_call3_v1 (cmpi .slt),
   nullary main_call3_c_0 (constantI S_ 32 100#32),
   unary main_call3_c_0 main_call3_v2 (broadcastInDim S1024x1 ![] bcast_S_S1024x1),
   binary main_v49 main_call3_v2 main_call3_v3 addi,
   ternary main_call3_v1 main_call3_v3 main_v49 main_call3_v4 select,
   reshape main_call3_v4 main_call3_v5 (rfl : (.i32 : EltTy) = .i32) shapeCasts_S1024x1_S1024x1x1,
   nullary main_call3_c_1 (constantI S1 32 99#32),
   nullary main_call3_c_2 (constantI S_ 32 0#32),
   unary main_call3_c_2 main_call3_v6 (broadcastInDim S1024x1x1 ![] bcast_S_S1024x1x1),
   binary main_call3_v5 main_call3_v6 main_call3_v7 (cmpi .sge),
   unary main_call3_c_1 main_call3_v8 (broadcastInDim S1x1x1 ![2] bcast_S1_S1x1x1_2),
   unary main_call3_v8 main_call3_v9 (broadcastInDim S1024x1x1 ![0, 1, 2] bcast_S1x1x1_S1024x1x1_0_1_2),
   binary main_call3_v5 main_call3_v9 main_call3_v10 (cmpi .sle),
   binary main_call3_v7 main_call3_v10 main_call3_v11 andi,
   nullary main_call3_c_3 (constantI S_ 1 1#1),
   binary main_call3_v11 main_call3_c_3 main_call3_v12 (fun x v => Host.reduce IntOp.andi x v reducesTo_S1024x1x1_S1024x1_d2 h_S_),
   binary main_v48 main_call3_v5 main_call3_v13 (fun x i => Host.gather gather_S1024x100_S1024x1x1_S1024x1_n_1_0_0_1_2_11 x i),
   nullary main_call3_cst (constant S_ .f32 0x7FC00000#32),
   unary main_call3_cst main_call3_v14 (broadcastInDim S1024x1 ![] bcast_S_S1024x1),
   ternary main_call3_v12 main_call3_v13 main_call3_v14 main_v50 select]

theorem opsTake_sub : (opsTake (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsTake_fresh : ∀ op ∈ opsTake (F := F), op.fresh = ∅ := by
  intro _ h; (repeat (cases h with | head => rfl | tail _ h => ?_)); exact nomatch h

/-- The operations that compute the mean of their negations. -/
abbrev opsMean : List (HloOp τ sig (Elt F)) :=
  [reshape main_v50 main_v51 (rfl : (.f32 : EltTy) = .f32) shapeCasts_S1024x1_S1024,
   unary main_v51 main_v52 (Host.negf : (⟨S1024, .f32⟩ : BufTy).Contents (Elt F) → (⟨S1024, .f32⟩ : BufTy).Contents (Elt F)),
   nullary main_cst_5 (constant S_ .f32 0x00000000#32),
   binary main_v52 main_cst_5 main_v53 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
   nullary main_cst_6 (constant S_ .f32 0x44800000#32),
   binary main_v53 main_cst_6 main_v54 (Host.divf : (⟨S_, .f32⟩ : BufTy).Contents (Elt F) → (⟨S_, .f32⟩ : BufTy).Contents (Elt F) → (⟨S_, .f32⟩ : BufTy).Contents (Elt F))]

theorem opsMean_sub : (opsMean (F := F)).Forall fun op => op.bufs ⊆ tcRefs τ sig :=
  ⟨reshape_bufs_sub .., unary_bufs_sub .., nullary_bufs_sub .., binary_bufs_sub .., nullary_bufs_sub .., binary_bufs_sub ..⟩

theorem opsMean_fresh : ∀ op ∈ opsMean (F := F), op.fresh = ∅ := by
  intro _ h; (repeat (cases h with | head => rfl | tail _ h => ?_)); exact nomatch h

/-- @main's operations, in order. -/
abbrev ops : List (HloOp τ sig (Elt F)) := opsCodes ++ (opsPick ++ (opsMlp ++ (opsLogp ++ (opsTake ++ opsMean))))

set_option maxRecDepth 200000 in
theorem main_eq (d : Dev nD) : main (F := F) d = seq ops := rfl

theorem ops_sub : (ops (F := F)).Forall fun op => op.bufs ⊆ tcRefs τ sig := by
  rw [List.forall_iff_forall_mem]
  intro op h
  simp only [ops, List.mem_append] at h
  rcases h with h | h | h | h | h | h
  · exact List.forall_iff_forall_mem.1 opsCodes_sub op h
  · exact List.forall_iff_forall_mem.1 opsPick_sub op h
  · exact List.forall_iff_forall_mem.1 opsMlp_sub op h
  · exact List.forall_iff_forall_mem.1 opsLogp_sub op h
  · exact List.forall_iff_forall_mem.1 opsTake_sub op h
  · exact List.forall_iff_forall_mem.1 opsMean_sub op h

theorem ops_fresh : ∀ op ∈ ops (F := F), op.fresh = ∅ := by
  intro op h
  simp only [ops, List.mem_append] at h
  rcases h with h | h | h | h | h | h
  · exact opsCodes_fresh op h
  · exact opsPick_fresh op h
  · exact opsMlp_fresh op h
  · exact opsLogp_fresh op h
  · exact opsTake_fresh op h
  · exact opsMean_fresh op h

theorem scopedRefs_eq : (Finset.univ.filter fun b : Ref sig .tc => b.isScoped) = ∅ := by decide
theorem scopedSems_eq : (Finset.univ.filter fun sm : SemLoc sig => sm.isScoped .tc) = ∅ := by decide

/-! ## What each stretch leaves -/

theorem opsCodes_read (V : Valuation τ sig (Elt F)) : after opsCodes V (Proc.devRef .tc main_v17)
    = nearest (dist (cells (V (Proc.devRef .tc main_arg0))) (V (Proc.devRef .tc main_arg2))) := by
  after_results_simp; rfl

theorem opsPick_read (V : Valuation τ sig (Elt F)) : after opsPick V (Proc.devRef .tc main_v38)
    = flat (words (V (Proc.devRef .tc main_arg2)) (V (Proc.devRef .tc main_v17))) := by
  after_results_simp; rfl

theorem opsMlp_read (V : Valuation τ sig (Elt F)) : after opsMlp V (Proc.devRef .tc main_v47)
    = logits (hidden (V (Proc.devRef .tc main_v38)) (V (Proc.devRef .tc main_arg3)) (V (Proc.devRef .tc main_arg4)))
      (V (Proc.devRef .tc main_arg5)) (V (Proc.devRef .tc main_arg6)) := by
  after_results_simp; rfl

theorem opsLogp_read (V : Valuation τ sig (Elt F)) : after opsLogp V (Proc.devRef .tc main_v48)
    = logp (V (Proc.devRef .tc main_v47)) := by
  after_results_simp; rfl

theorem opsTake_read (V : Valuation τ sig (Elt F)) : after opsTake V (Proc.devRef .tc main_v50)
    = taken (V (Proc.devRef .tc main_v48)) (V (Proc.devRef .tc main_arg1)) := by
  after_results_simp; rfl

theorem opsMean_read (V : Valuation τ sig (Elt F)) : after opsMean V (Proc.devRef .tc main_v54)
    = mean (V (Proc.devRef .tc main_v50)) := by
  after_results_simp; rfl

/-- The references no stretch writes: the arguments. -/
abbrev args : List (Ref sig .tc) := [main_arg0, main_arg1, main_arg2, main_arg3, main_arg4, main_arg5, main_arg6]

theorem opsCodes_keep (V : Valuation τ sig (Elt F)) : ∀ b ∈ args,
    after opsCodes V (Proc.devRef .tc b) = V (Proc.devRef .tc b) := by
  simp only [List.forall_mem_cons]
  refine ⟨?_, ?_, ?_, ?_, ?_, ?_, ?_, fun _ h => nomatch h⟩ <;> after_results_simp

theorem opsPick_keep (V : Valuation τ sig (Elt F)) : ∀ b ∈ args,
    after opsPick V (Proc.devRef .tc b) = V (Proc.devRef .tc b) := by
  simp only [List.forall_mem_cons]
  refine ⟨?_, ?_, ?_, ?_, ?_, ?_, ?_, fun _ h => nomatch h⟩ <;> after_results_simp

theorem opsMlp_keep (V : Valuation τ sig (Elt F)) : ∀ b ∈ args,
    after opsMlp V (Proc.devRef .tc b) = V (Proc.devRef .tc b) := by
  simp only [List.forall_mem_cons]
  refine ⟨?_, ?_, ?_, ?_, ?_, ?_, ?_, fun _ h => nomatch h⟩ <;> after_results_simp

theorem opsLogp_keep (V : Valuation τ sig (Elt F)) : ∀ b ∈ main_v47 :: args,
    after opsLogp V (Proc.devRef .tc b) = V (Proc.devRef .tc b) := by
  simp only [List.forall_mem_cons]
  refine ⟨?_, ?_, ?_, ?_, ?_, ?_, ?_, ?_, fun _ h => nomatch h⟩ <;> after_results_simp

theorem opsTake_keep (V : Valuation τ sig (Elt F)) : ∀ b ∈ main_v47 :: args,
    after opsTake V (Proc.devRef .tc b) = V (Proc.devRef .tc b) := by
  simp only [List.forall_mem_cons]
  refine ⟨?_, ?_, ?_, ?_, ?_, ?_, ?_, ?_, fun _ h => nomatch h⟩ <;> after_results_simp

theorem opsMean_keep (V : Valuation τ sig (Elt F)) : ∀ b ∈ main_v47 :: args,
    after opsMean V (Proc.devRef .tc b) = V (Proc.devRef .tc b) := by
  simp only [List.forall_mem_cons]
  refine ⟨?_, ?_, ?_, ?_, ?_, ?_, ?_, ?_, fun _ h => nomatch h⟩ <;> after_results_simp

/-! ## The whole run -/

variable (m : (ℓ : Loc nD τ sig) → Buf (Elt F) ℓ)

/-- The reference's logits, of what the arguments hold at launch. -/
def leftLogits (d : Dev nD) : Vec F S1024x100 .f32 :=
  logits (hidden (flat (words (m ((d.tc : Thread nD τ).loc main_arg2))
        (nearest (dist (cells (m ((d.tc : Thread nD τ).loc main_arg0))) (m ((d.tc : Thread nD τ).loc main_arg2))))))
      (m ((d.tc : Thread nD τ).loc main_arg3)) (m ((d.tc : Thread nD τ).loc main_arg4)))
    (m ((d.tc : Thread nD τ).loc main_arg5)) (m ((d.tc : Thread nD τ).loc main_arg6))

/-- The reference's loss, of what the arguments hold at launch. -/
def leftLoss (d : Dev nD) : Vec F S_ .f32 :=
  mean (taken (logp (leftLogits m d)) (m ((d.tc : Thread nD τ).loc main_arg1)))

theorem ops_split (V : Valuation τ sig (Elt F)) :
    after ops V = after opsMean (after opsTake (after opsLogp (after opsMlp (after opsPick (after opsCodes V))))) := by
  simp only [ops, after_append]

theorem args_kept (V : Valuation τ sig (Elt F)) : ∀ b ∈ args, after ops V (Proc.devRef .tc b) = V (Proc.devRef .tc b) := by
  intro b hb
  rw [ops_split, opsMean_keep _ _ (List.mem_cons_of_mem _ hb), opsTake_keep _ _ (List.mem_cons_of_mem _ hb),
    opsLogp_keep _ _ (List.mem_cons_of_mem _ hb), opsMlp_keep _ _ hb, opsPick_keep _ _ hb, opsCodes_keep _ _ hb]

theorem logits_mid (d : Dev nD) :
    after opsMlp (after opsPick (after opsCodes (launchContents m d))) (Proc.devRef .tc main_v47) = leftLogits m d := by
  rw [opsMlp_read, opsPick_read, opsCodes_read,
    opsPick_keep _ main_arg3 (by decide), opsCodes_keep _ main_arg3 (by decide),
    opsPick_keep _ main_arg4 (by decide), opsCodes_keep _ main_arg4 (by decide),
    opsPick_keep _ main_arg5 (by decide), opsCodes_keep _ main_arg5 (by decide),
    opsPick_keep _ main_arg6 (by decide), opsCodes_keep _ main_arg6 (by decide), opsCodes_keep _ main_arg2 (by decide)]
  rfl

theorem logits_end (d : Dev nD) : after ops (launchContents m d) (Proc.devRef .tc main_v47) = leftLogits m d := by
  rw [ops_split, opsMean_keep _ main_v47 (by decide), opsTake_keep _ main_v47 (by decide), opsLogp_keep _ main_v47 (by decide),
    logits_mid]

theorem loss_end (d : Dev nD) : after ops (launchContents m d) (Proc.devRef .tc main_v54) = leftLoss m d := by
  rw [ops_split, opsMean_read, opsTake_read, opsLogp_read, logits_mid, opsLogp_keep _ main_arg1 (by decide),
    opsMlp_keep _ main_arg1 (by decide), opsPick_keep _ main_arg1 (by decide), opsCodes_keep _ main_arg1 (by decide)]
  rfl

/-- What an end state holds: the two results and the arguments as at launch. -/
abbrev Ends (r : PUnit × MemSt nD τ sig (Elt F)) : Prop := ∀ d : Dev nD,
  r.2.mem ((d.tc : Thread nD τ).loc main_v47) = leftLogits m d
  ∧ r.2.mem ((d.tc : Thread nD τ).loc main_v54) = leftLoss m d
  ∧ ∀ b ∈ args, r.2.mem ((d.tc : Thread nD τ).loc b) = m ((d.tc : Thread nD τ).loc b)

/-- Every weakly fair execution of the reference terminates with its results at their values, its arguments unchanged
    and every counter at zero. -/
theorem run (ρ : Dev nD → PrngReg) :
    θ_run (defs (F := F)) (onTc (τ := τ) main) ⟨m, fun _ => 0, ρ⟩ (fun r => Ends m r ∧ r.2.sem = fun _ => 0) :=
  (θ_run defs _ _).mono
    (fun r h => ⟨fun d => ⟨(h d main_v47).trans (logits_end m d), (h d main_v54).trans (loss_end m d),
      fun b hb => (h d b).trans (args_kept _ b hb)⟩, sem_eq_zero_of_no_sems (by decide) _⟩)
    (run_seq scopedRefs_eq scopedSems_eq defs main (fun _ => ops) main_eq (fun _ => ops_sub) m ρ (fun _ => ops_fresh))

end Cert.ReferenceIdeal.Whole

end
-- ==== Proof.Val.First.lean ====
/-
  The first place at which a family of extended reals is least: the kernel finds it by a minimum of values and then a
  minimum of indices, the reference by one fold over pairs of a value and an index.
-/
module

public import Idealize.ShloMosaic.Lib.Pointwise
public import Idealize.ShloMosaic.Lib.PlanTiles.Rows

@[expose] public section

noncomputable section

namespace Cert.Val

open Idealize.ShloMosaic

/-- The word of positive infinity. -/
theorem ofBits_top : Ideal.ofBits .f32 0x7F800000#32 = ⊤ := by simp [Ideal.ofBits, Ideal.ieee]
/-- The word of negative infinity. -/
theorem ofBits_bot : Ideal.ofBits .f32 0xFF800000#32 = ⊥ := by simp [Ideal.ofBits, Ideal.ieee]

section

variable {n : ℕ} [NeZero n] (f : Fin n → EReal)

/-- There is a first place at which a family is least. -/
theorem exists_pick : ∃ k : Fin n, (∀ i, f k ≤ f i) ∧ ∀ i, i < k → f k < f i := by
  classical
  obtain ⟨a, -, ha⟩ := Finset.exists_min_image Finset.univ f ⟨0, Finset.mem_univ _⟩
  let s : Finset (Fin n) := Finset.univ.filter fun k => ∀ i, f k ≤ f i
  have hs : s.Nonempty := ⟨a, by simp only [s, Finset.mem_filter, Finset.mem_univ, true_and]; exact fun i => ha i (Finset.mem_univ _)⟩
  have hm : ∀ i, f (s.min' hs) ≤ f i := by
    have := s.min'_mem hs
    simp only [s, Finset.mem_filter, Finset.mem_univ, true_and] at this
    exact this
  refine ⟨s.min' hs, hm, fun i hi => lt_of_le_of_ne (hm i) fun he => ?_⟩
  refine absurd (s.min'_le i ?_) (not_le.2 hi)
  simp only [s, Finset.mem_filter, Finset.mem_univ, true_and]
  exact fun k => he ▸ hm k

/-- The first place at which a family is least. -/
def pick : Fin n := (exists_pick f).choose

theorem pick_le (i : Fin n) : f (pick f) ≤ f i := (exists_pick f).choose_spec.1 i

theorem pick_lt {i : Fin n} (h : i < pick f) : f (pick f) < f i := (exists_pick f).choose_spec.2 i h

/-- The first place is known by what it does. -/
theorem eq_pick {k : Fin n} (h₁ : ∀ i, f k ≤ f i) (h₂ : ∀ i, i < k → f k < f i) : k = pick f := by
  rcases lt_trichotomy k (pick f) with h | h | h
  · exact absurd (h₁ (pick f)) (not_le.2 (pick_lt f h))
  · exact h
  · exact absurd (pick_le f k) (not_le.2 (h₂ _ h))

/-- The least value is the one at the first place. -/
theorem fold_min_eq : Finset.univ.fold min (⊤ : EReal) f = f (pick f) :=
  le_antisymm (by rw [Finset.fold_min_le]; exact Or.inr ⟨pick f, Finset.mem_univ _, le_rfl⟩)
    (by rw [Finset.le_fold_min]; exact ⟨le_top, fun i _ => pick_le f i⟩)

theorem eq_least_iff_of_lt {i : Fin n} (h : i < pick f) : f i ≠ f (pick f) := ne_of_gt (pick_lt f h)

/-- A fold of the signed minimum over words of small naturals is the word of their least. -/
theorem fold_minsi {ι : Type*} (s : Finset ι) (g : ι → ℕ) (hg : ∀ i, g i < 2 ^ 31) :
    s.fold IntOp.minsi 2147483647#32 (fun i => BitVec.ofNat 32 (g i)) = BitVec.ofNat 32 (s.fold min 2147483647 g) := by
  classical
  induction s using Finset.induction_on with
  | empty => rfl
  | insert a s ha ih =>
    have hb : s.fold min 2147483647 g < 2 ^ 31 := by
      rw [Finset.fold_min_lt]; exact Or.inl (by norm_num)
    rw [Finset.fold_insert ha, Finset.fold_insert ha, ih, PlanTiles.minsi_word (hg a) hb, min_comm]

/-- The least of the indices at which a family is least, and of 256 elsewhere, is the first place. -/
theorem fold_index (f : Fin 256 → EReal) :
    (Finset.univ.fold IntOp.minsi 2147483647#32 fun k : Fin 256 => if f k = f (pick f) then BitVec.ofNat 32 k.val else 256#32)
      = BitVec.ofNat 32 (pick f).val := by
  have h : (fun k : Fin 256 => if f k = f (pick f) then BitVec.ofNat 32 k.val else 256#32)
      = fun k => BitVec.ofNat 32 (if f k = f (pick f) then k.val else 256) := by
    funext k; split_ifs <;> rfl
  rw [h, fold_minsi _ _ (fun i => by have := i.isLt; split_ifs <;> omega)]
  congr 1
  refine le_antisymm ?_ ?_
  · rw [Finset.fold_min_le]; exact Or.inr ⟨pick f, Finset.mem_univ _, by simp⟩
  · rw [Finset.le_fold_min]
    have hp := (pick f).isLt
    refine ⟨by omega, fun i _ => ?_⟩
    split_ifs with hi
    · by_contra hlt
      exact eq_least_iff_of_lt f (Fin.lt_def.2 (not_le.1 hlt)) hi
    · omega

end

/-- The number that a one-hot column holds at a row: one at the chosen row, zero elsewhere. -/
theorem hot_word {n : ℕ} (hn : n ≤ 256) (k p : Fin n) :
    (FloatOps.sitofp .f32 (BitVec.setWidth 32 (IntOp.cmpi CmpIPredicate.eq (BitVec.ofNat 32 k.val) (BitVec.ofNat 32 p.val))) : Ideal .f32)
      = if k = p then 1 else 0 := by
  have hk := k.isLt
  have hp := p.isLt
  rcases eq_or_ne k p with rfl | h
  · have h1 : IntOp.cmpi CmpIPredicate.eq (BitVec.ofNat 32 k.val) (BitVec.ofNat 32 k.val) = 1#1 := by simp [IntOp.cmpi]
    rw [h1, if_pos rfl]
    show (((1#32 : BitVec 32).toInt : ℝ) : EReal) = 1
    norm_num
  · have : BitVec.ofNat 32 k.val ≠ BitVec.ofNat 32 p.val := by
      intro he
      have := congrArg BitVec.toNat he
      rw [BitVec.toNat_ofNat, BitVec.toNat_ofNat, Nat.mod_eq_of_lt (by omega), Nat.mod_eq_of_lt (by omega)] at this
      exact h (Fin.ext this)
    have h0 : IntOp.cmpi CmpIPredicate.eq (BitVec.ofNat 32 k.val) (BitVec.ofNat 32 p.val) = 0#1 := by
      show BitVec.ofBool (BitVec.ofNat 32 k.val == BitVec.ofNat 32 p.val) = 0#1
      rw [beq_false_of_ne this]; rfl
    rw [h0, if_neg h]
    show (((0#32 : BitVec 32).toInt : ℝ) : EReal) = 0
    norm_num

theorem hot_eq (k p : Fin 256) :
    (FloatOps.sitofp .f32 (BitVec.setWidth 32 (IntOp.cmpi CmpIPredicate.eq (BitVec.ofNat 32 k.val) (BitVec.ofNat 32 p.val))) : Ideal .f32)
      = if k = p then 1 else 0 := hot_word le_rfl k p

/-- A sum against a one-hot column is the chosen term. -/
theorem sum_hot {n : ℕ} (w : Fin n → EReal) (p : Fin n) : ∑ k, w k * (if k = p then (1 : EReal) else 0) = w p := by
  rw [Finset.sum_eq_single p (fun k _ h => by rw [if_neg h, mul_zero]) (fun h => absurd (Finset.mem_univ _) h), if_pos rfl, mul_one]

/-! ## The reference's fold over pairs -/

/-- One pair comes no later than another: a lesser value, or the same value and no greater index. -/
def Upto (a b : EReal × BitVec 32) : Prop := a.1 < b.1 ∨ (a.1 = b.1 ∧ a.2.toInt ≤ b.2.toInt)

theorem Upto.refl (a : EReal × BitVec 32) : Upto a a := Or.inr ⟨rfl, le_rfl⟩

theorem Upto.trans {a b c : EReal × BitVec 32} (h : Upto a b) (h' : Upto b c) : Upto a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A fold that keeps one of its two operands, no later than either, ends at one of the pairs met, no later than any. -/
theorem foldl_upto (g : EReal × BitVec 32 → EReal × BitVec 32 → EReal × BitVec 32)
    (hg : ∀ a b, (g a b = a ∧ Upto a b) ∨ (g a b = b ∧ Upto b a)) :
    ∀ (L : List (EReal × BitVec 32)) (b : EReal × BitVec 32),
      (L.foldl g b = b ∨ L.foldl g b ∈ L) ∧ Upto (L.foldl g b) b ∧ ∀ a ∈ L, Upto (L.foldl g b) a
  | [], b => ⟨Or.inl rfl, Upto.refl b, fun _ h => nomatch h⟩
  | c :: L, b => by
    obtain ⟨h₁, h₂, h₃⟩ := foldl_upto g hg L (g b c)
    rw [List.foldl_cons]
    have hb : Upto (g b c) b ∧ Upto (g b c) c ∧ (g b c = b ∨ g b c = c) := by
      rcases hg b c with ⟨h, u⟩ | ⟨h, u⟩
      · rw [h]; exact ⟨Upto.refl _, u, Or.inl rfl⟩
      · rw [h]; exact ⟨u, Upto.refl _, Or.inr rfl⟩
    refine ⟨?_, h₂.trans hb.1, fun a ha => ?_⟩
    · rcases h₁ with h₁ | h₁
      · rcases hb.2.2 with h | h
        · exact Or.inl (h₁.trans h)
        · exact Or.inr (by rw [h₁, h]; exact List.mem_cons_self)
      · exact Or.inr (List.mem_cons_of_mem _ h₁)
    · rcases List.mem_cons.1 ha with rfl | ha
      · exact h₂.trans hb.2.1
      · exact h₃ a ha

theorem toInt_small (k : Fin 256) : (BitVec.ofNat 32 k.val).toInt = k.val := by
  have := k.isLt
  rw [BitVec.toInt_ofNat', Int.bmod_eq_of_le] <;> omega

/-- Such a fold from (+∞, 0) over the pairs of a family ends at the index of the first least value. -/
theorem foldl_pick (g : EReal × BitVec 32 → EReal × BitVec 32 → EReal × BitVec 32)
    (hg : ∀ a b, (g a b = a ∧ Upto a b) ∨ (g a b = b ∧ Upto b a)) (f : Fin 256 → EReal) (L : List (EReal × BitVec 32))
    (hL : ∀ p, p ∈ L ↔ ∃ k : Fin 256, p = (f k, BitVec.ofNat 32 k.val)) :
    (L.foldl g (⊤, 0#32)).2 = BitVec.ofNat 32 (pick f).val := by
  obtain ⟨h₁, -, h₃⟩ := foldl_upto g hg L (⊤, 0#32)
  have h₃' : ∀ k : Fin 256, Upto (L.foldl g (⊤, 0#32)) (f k, BitVec.ofNat 32 k.val) := fun k => h₃ _ ((hL _).2 ⟨k, rfl⟩)
  rcases h₁ with h | h
  · rw [h] at h₃' ⊢
    have ht : ∀ k, f k = ⊤ := fun k => by
      rcases h₃' k with h | h
      · exact absurd h (not_lt.2 le_top)
      · exact h.1.symm
    have : (0 : Fin 256) = pick f := eq_pick f (fun i => by rw [ht, ht]) (fun i hi => absurd hi (Fin.not_lt_zero i))
    rw [← this]; rfl
  · obtain ⟨k, hk⟩ := (hL _).1 h
    rw [hk] at h₃' ⊢
    have : k = pick f := by
      refine eq_pick f (fun i => ?_) (fun i hi => ?_)
      · rcases h₃' i with h | h
        · exact le_of_lt h
        · exact le_of_eq h.1
      · rcases h₃' i with h | ⟨-, h⟩
        · exact h
        · simp only [toInt_small] at h
          exact absurd h (by have := Fin.lt_def.1 hi; omega)
    rw [this]

end Cert.Val

end
-- ==== Proof.Val.PqPay.lean ====
/-
  What one group of the first kernel's body computes: for every column, the code word nearest to the column's thirty-two
  numbers, the first of them where several are.
-/
module

public import proofs.«01_k».proof.Proof.Gen.KernelIdeal.Skeleton
public import proofs.«01_k».proof.Proof.Val.First

@[expose] public section

set_option maxRecDepth 16384

noncomputable section

namespace Cert.Val

open Idealize.ShloMosaic

/-- The squared distance of a cell `z` to a code word `w`, as both programs sum it. -/
def far (z w : Fin 32 → EReal) : EReal :=
  ∑ d, z d * z d - Ideal.ofBits .f32 0x40000000#32 * ∑ d, w d * z d + ∑ d, w d * w d

/-- The index of the nearest code word, the first of them where several are. -/
def code (z : Fin 32 → EReal) (w : Fin 256 → Fin 32 → EReal) : Fin 256 := pick fun k => far z (w k)

open Cert.KernelIdeal Cert.KernelIdeal.Gen in
/-- The body's group at a row and a column: the nearest code word's coordinate. -/
theorem pay_apply (x : Vec Ideal S32x2048 .f32) (w : Vec Ideal S1x256x32 .f32) (d : Fin 32) (n : Fin 2048) :
    k0_pay2 x w (ix2 d n) = w (ix3 0 (code (fun e => x (ix2 e n)) fun k e => w (ix3 0 k e)) d) := by
  pointwise [k0_pay2]
  rw [ofBits_top, fold_min_eq]
  simp only [fold_index, hot_eq]
  exact sum_hot (fun k => w (ix3 0 k d)) _

end Cert.Val

end
-- ==== Proof.Val.Pq.lean ====
/-
  What the first kernel's region leaves in its result's array: each column's nearest code words.
-/
module

public import proofs.«01_k».proof.Proof.PI.Run
public import proofs.«01_k».proof.Proof.Val.PqPay

@[expose] public section

set_option maxRecDepth 16384

noncomputable section

namespace Cert.Val

open Cert.KernelIdeal Cert.KernelIdeal.Gen
open Idealize.ShloMosaic Idealize.ShloMosaic.TcCoe
open Idealize.ShloMosaic.Pipeline (Dat Cfg Window)

/-- Row `32 m + d` of a block of 1024 rows. -/
def row (m d : Fin 32) : Fin 1024 := ⟨32 * m.val + d.val, by omega⟩

/-- Every row is row `32 m + d` for its quotient and its remainder. -/
theorem row_surj (r : Fin 1024) : ∃ m d : Fin 32, r = row m d :=
  ⟨⟨r.val / 32, by omega⟩, ⟨r.val % 32, by omega⟩, Fin.ext (by show r.val = 32 * (r.val / 32) + r.val % 32; omega)⟩

/-- The body's block at a row and a column. -/
theorem out_apply (x : Vec Ideal S1024x2048 .f32) (cb : Vec Ideal S32x256x32 .f32) (m d : Fin 32) (n : Fin 2048) :
    Pq.out x cb (ix2 (row m d) n) = cb (ix3 m (code (fun e => x (ix2 (row m e) n)) fun k e => cb (ix3 m k e)) d) := by
  refine View.canon_eq_of_allAt _ _ _ (Pq.pieces_cover x cb _) fun p hp => ?_
  obtain ⟨k, -, rfl⟩ := List.mem_map.1 hp
  intro y hy
  obtain ⟨a, b, rfl⟩ : ∃ (a : Fin 32) (b : Fin 2048), y = ix2 a b := ⟨y 0, y 1, eq_ix2 y⟩
  have h0 : 32 * k.val + 1 * a.val = 32 * m.val + d.val := congrArg (fun i : S1024x2048.Idx => (i 0).val) hy
  have h1 : 0 + 1 * b.val = n.val := congrArg (fun i : S1024x2048.Idx => (i 1).val) hy
  obtain rfl : k = m := Fin.ext (by omega)
  obtain rfl : a = d := Fin.ext (by omega)
  obtain rfl : b = n := Fin.ext (by omega)
  have hx : ∀ e, View.ld x (Pq.rows k) (ix2 e b) = x (ix2 (row k e) b) := fun e =>
    congrArg x (funext fun i => Fin.ext (by
      fin_cases i
      · show 32 * k.val + 1 * e.val = 32 * k.val + e.val; omega
      · show 0 + 1 * b.val = b.val; omega))
  have hw : ∀ q e, View.ld cb (Pq.book k) (ix3 0 q e) = cb (ix3 k q e) := fun q e =>
    congrArg cb (funext fun i => Fin.ext (by
      fin_cases i
      · show k.val + 1 * 0 = k.val; omega
      · show 0 + 1 * q.val = q.val; omega
      · show 0 + 1 * e.val = e.val; omega))
  refine (pay_apply _ _ a b).trans ?_
  simp only [hx, hw]

/-- Every column's nearest code words, from the columns and the codebooks. -/
def decoded (x : Vec Ideal S1024x4096 .f32) (cb : Vec Ideal S32x256x32 .f32) : Vec Ideal S1024x4096 .f32 := fun i =>
  have m : Fin 32 := ⟨(i 0).val / 32, by have : (i 0).val < 1024 := (i 0).isLt; omega⟩
  cb (ix3 m (code (fun e => x (ix2 (row m e) (i 1))) fun k e => cb (ix3 m k e)) ⟨(i 0).val % 32, Nat.mod_lt _ (by omega)⟩)

theorem decoded_apply (x : Vec Ideal S1024x4096 .f32) (cb : Vec Ideal S32x256x32 .f32) (m d : Fin 32) (n : Fin 4096) :
    decoded x cb (ix2 (row m d) n) = cb (ix3 m (code (fun e => x (ix2 (row m e) n)) fun k e => cb (ix3 m k e)) d) := by
  have hm : (⟨(32 * m.val + d.val) / 32, by omega⟩ : Fin 32) = m := Fin.ext (by show (32 * m.val + d.val) / 32 = m.val; omega)
  have hd : (⟨(32 * m.val + d.val) % 32, by omega⟩ : Fin 32) = d := Fin.ext (by show (32 * m.val + d.val) % 32 = d.val; omega)
  show cb (ix3 (⟨(32 * m.val + d.val) / 32, _⟩ : Fin 32) (code (fun e => x (ix2 (row (⟨(32 * m.val + d.val) / 32, _⟩ : Fin 32) e) n))
    fun k e => cb (ix3 (⟨(32 * m.val + d.val) / 32, _⟩ : Fin 32) k e)) (⟨(32 * m.val + d.val) % 32, _⟩ : Fin 32)) = _
  rw [hm, hd]

theorem idx_0 : ∀ t : Fin cfg0.N, win0_0.index t = ![0, t.val] :=
  (by decide +kernel : ∀ t : Fin grid0.N, win0_0.index t = ![0, t.val])
theorem idx_1 : ∀ t : Fin cfg0.N, win0_1.index t = ![0, 0, 0] :=
  (by decide +kernel : ∀ t : Fin grid0.N, win0_1.index t = ![0, 0, 0])
theorem idx_2 : ∀ t : Fin cfg0.N, win0_2.index t = ![0, t.val] :=
  (by decide +kernel : ∀ t : Fin grid0.N, win0_2.index t = ![0, t.val])

/-- The columns' block at point `t`: columns `2048 t …`. -/
theorem columns_apply (V : (c : Dev nD) → Valuation τ sig (Elt Ideal)) (c : Dev nD) (t : Fin cfg0.N) (r : Fin 1024) (n : Fin 2048)
    (N : Fin 4096) (h : N.val = t.val * 2048 + n.val) :
    (Pq.iblk V c 0 t : Vec Ideal S1024x2048 .f32) (ix2 r n) = V c main_v2 (ix2 r N) := by
  blk_simp [Pq.iblk]
  refine congrArg (V c main_v2) ?_
  blk_ext [idx_0 t]

/-- The codebooks' block is the whole array. -/
theorem books_apply (V : (c : Dev nD) → Valuation τ sig (Elt Ideal)) (c : Dev nD) (t : Fin cfg0.N) :
    (Pq.iblk V c 1 t : Vec Ideal S32x256x32 .f32) = V c main_arg2 := by
  funext y
  blk_simp [Pq.iblk]
  refine congrArg (V c main_arg2) ?_
  blk_ext [idx_1 t]

/-- The region leaves every column's nearest code words. -/
theorem left_eq (V : (c : Dev nD) → Valuation τ sig (Elt Ideal)) (c : Dev nD) :
    Pq.left V c = decoded (V c main_v2) (V c main_arg2) := by
  refine (Pq.dat V c).arrAt_eq_of_covers 2 _ (by decide +kernel) fun t hf y => ?_
  blk_simp
  rw [Pq.after_2]
  have ht : t.val < 2 := lt_of_lt_of_eq t.isLt (by decide +kernel)
  obtain ⟨r, n, rfl⟩ : ∃ (r : Fin 1024) (n : Fin 2048), y = (ix2 r n : S1024x2048.Idx) := ⟨y 0, y 1, eq_ix2 y⟩
  obtain ⟨m, d, rfl⟩ := row_surj r
  have he : (win0_2.blk t).view.emb (ix2 (row m d) n : S1024x2048.Idx) = (ix2 (row m d) ⟨t.val * 2048 + n.val, by omega⟩ : S1024x4096.Idx) := by
    blk_ext [idx_2 t]
  refine (out_apply _ _ m d n).trans ?_
  rw [books_apply]
  refine Eq.trans ?_ (congrArg (decoded (V c main_v2) (V c main_arg2)) he).symm
  rw [decoded_apply]
  simp only [columns_apply V c t _ n ⟨t.val * 2048 + n.val, by omega⟩ rfl]

end Cert.Val

end
-- ==== Proof.Val.Host.lean ====
/-
  What the host lays out before the kernels and after them.
-/
module

public import proofs.«01_k».proof.Proof.Val.Pq

@[expose] public section

set_option maxRecDepth 16384

noncomputable section

namespace Cert.Val

open Cert.KernelIdeal Cert.KernelIdeal.Gen
open Idealize.ShloMosaic Idealize.ShloMosaic.TcCoe Idealize.ShloMosaic.StableHlo

/-- The features' columns: height and width, then image. -/
def columns (x : Vec Ideal S1024x1024x2x2 .f32) : Vec Ideal S1024x4096 .f32 :=
  shapeCast S1024x4096 (transpose S1024x4x1024 [1, 2, 0] (shapeCast S1024x1024x4 x shapeCasts_S1024x1024x2x2_S1024x1024x4)
    transposes_S1024x1024x4_S1024x4x1024_1_2_0) shapeCasts_S1024x4x1024_S1024x4096

/-- The second layer's weights, padded to 128 classes. -/
def wide (w : Vec Ideal S4096x100 .f32) : Vec Ideal S4096x128 .f32 :=
  pad S4096x128 ![0, 0] ![0, 28] ![0, 0] w (sitofp (F := Ideal) .f32 (constantI S_ 32 0#32)) pads_S4096x100_S4096x128_000_0280 h_S_

/-- The second layer's bias, padded to 128 classes. -/
def wideBias (b : Vec Ideal S100 .f32) : Vec Ideal S1x128 .f32 :=
  shapeCast S1x128 (pad S128 ![0] ![28] ![0] b (sitofp (F := Ideal) .f32 (constantI S_ 32 0#32)) pads_S100_S128_0280 h_S_) shapeCasts_S128_S1x128

section

variable (m : (ℓ : Loc nD τ sig) → Buf (Elt Ideal) ℓ) (c : Dev nD)

theorem V1_v2 : V1 m c main_v2 = columns (m ((c : Thread nD τ).loc main_arg0)) := by
  show after hostOps0 (V0 m c) (Proc.devRef .tc main_v2) = _
  after_results_simp; rfl

/-- The second kernel's features are the first's result. -/
theorem V7_v3 : V7 m (Whole.outs m) c main_v3 = decoded (columns (m ((c : Thread nD τ).loc main_arg0))) (m ((c : Thread nD τ).loc main_arg2)) := by
  rw [V7_of m _ c main_v3 (by decide), V6_of m _ c main_v3 (by decide), V5_of m _ c main_v3 (by decide),
    V4_of m _ c main_v3 (by decide), V3_of m _ c main_v3 (by decide), Whole.V2_out, left_eq, V1_v2, V1_of m c main_arg2 (by decide)]

/-- An array no host operation writes is as launched. -/
theorem V2_kept (b : Ref sig .tc) (h : b ∉ ([main_v3] : List (Ref sig .tc))) (h' : b ∉ hostOps0_W) :
    V2 m (Whole.outs m) c b = m ((c : Thread nD τ).loc b) := (V2_of m _ c b h).trans (V1_of m c b h')

theorem V7_v4 : V7 m (Whole.outs m) c main_v4 = shapeCast S1024x16384 (m ((c : Thread nD τ).loc main_arg3) : Vec Ideal S4096x4096 .f32) shapeCasts_S4096x4096_S1024x16384 := by
  rw [V7_of m _ c main_v4 (by decide), V6_of m _ c main_v4 (by decide), V5_of m _ c main_v4 (by decide), V4_of m _ c main_v4 (by decide)]
  show after hostOps1 (V2 m (Whole.outs m) c) (Proc.devRef .tc main_v4) = _
  after_results_simp
  rw [V2_kept m c main_arg3 (by decide) (by decide)]
  rfl

theorem V7_v5 : V7 m (Whole.outs m) c main_v5 = wide (m ((c : Thread nD τ).loc main_arg5)) := by
  rw [V7_of m _ c main_v5 (by decide), V6_of m _ c main_v5 (by decide), V5_of m _ c main_v5 (by decide)]
  show after hostOps1_1 (V3 m (Whole.outs m) c) (Proc.devRef .tc main_v5) = _
  after_results_simp
  rw [V2_kept m c main_arg5 (by decide) (by decide)]
  rfl

theorem V7_v7 : V7 m (Whole.outs m) c main_v7 = wideBias (m ((c : Thread nD τ).loc main_arg6)) := by
  show after hostOps1_4 (V6 m (Whole.outs m) c) (Proc.devRef .tc main_v7) = _
  after_results_simp
  rw [V2_kept m c main_arg6 (by decide) (by decide)]
  rfl

theorem V7_v8 : V7 m (Whole.outs m) c main_v8 = shapeCast S1x4096 (m ((c : Thread nD τ).loc main_arg4) : Vec Ideal S4096 .f32) shapeCasts_S4096_S1x4096 := by
  show after hostOps1_4 (V6 m (Whole.outs m) c) (Proc.devRef .tc main_v8) = _
  after_results_simp
  rw [V2_kept m c main_arg4 (by decide) (by decide)]
  rfl

theorem V7_v9 : V7 m (Whole.outs m) c main_v9 = shapeCast S1024x1 (m ((c : Thread nD τ).loc main_arg1) : Vec Ideal S1024 .i32) shapeCasts_S1024_S1024x1 := by
  show after hostOps1_4 (V6 m (Whole.outs m) c) (Proc.devRef .tc main_v9) = _
  after_results_simp
  rw [V2_kept m c main_arg1 (by decide) (by decide)]
  rfl

theorem V9_v11 : V9 m (Whole.outs m) c main_v11
    = extractStridedSlice S1024x100 ![0, 0] (Mlp.leftLogits (V7 m (Whole.outs m)) c : Vec Ideal S1024x128 .f32) slices_S1024x128_S1024x100_0_0 := by
  show after hostOps2 (V8 m (Whole.outs m) c) (Proc.devRef .tc main_v11) = _
  after_results_simp
  rw [Whole.V8_out_0]

theorem V9_v12 : V9 m (Whole.outs m) c main_v12
    = shapeCast S_ (Mlp.leftLoss (V7 m (Whole.outs m)) c : Vec Ideal S1x1 .f32) shapeCasts_S1x1_S_ := by
  show after hostOps2 (V8 m (Whole.outs m) c) (Proc.devRef .tc main_v12) = _
  after_results_simp
  rw [Whole.V8_out_1]
  rfl

end

end Cert.Val

end
-- ==== Proof.Val.MlpPay.lean ====
/-
  What the second kernel's body computes at an index, and its operands' blocks and layouts.
-/
module

public import proofs.«01_k».proof.Proof.Val.Host

@[expose] public section

set_option maxRecDepth 16384

noncomputable section

namespace Cert.Val

open Cert.KernelIdeal Cert.KernelIdeal.Gen
open Idealize.ShloMosaic Idealize.ShloMosaic.TcCoe

/-- A feature block's product with its block of weights. -/
theorem pay1_apply (x : Vec Ideal S1024x1024 .f32) (w : Vec Ideal S1024x512 .f32) (b : Fin 1024) (q : Fin 512) :
    k1_pay1 x w (ix2 b q) = ∑ r, x (ix2 r b) * w (ix2 r q) := by
  pointwise [k1_pay1]

/-- The first feature block's plane is the product alone, -/
theorem pay2_apply (x : Vec Ideal S1024x1024 .f32) (w : Vec Ideal S1024x512 .f32) (b : Fin 1024) (q : Fin 512) :
    k1_pay2 x w (ix3 0 b q) = ∑ r, x (ix2 r b) * w (ix2 r q) := by
  pointwise [k1_pay2, k1_pay1]

/-- and a later one's the product added. -/
theorem pay3_apply (x : Vec Ideal S1024x1024 .f32) (w : Vec Ideal S1024x512 .f32) (v : Vec Ideal S1x1024x512 .f32) (b : Fin 1024) (q : Fin 512) :
    k1_pay3 x w v (ix3 0 b q) = v (ix3 0 b q) + ∑ r, x (ix2 r b) * w (ix2 r q) := by
  pointwise [k1_pay3, k1_pay1]

/-- A block of hidden units' share of the logits. -/
theorem pay4_apply (h : Vec Ideal S1x1024x512 .f32) (u : Vec Ideal S1x512 .f32) (w : Vec Ideal S512x128 .f32) (b : Fin 1024) (l : Fin 128) :
    k1_pay4 h u w (ix2 b l) = ∑ q, max (h (ix3 0 b q) + u (ix2 0 q)) 0 * w (ix2 q l) := by
  pointwise [k1_pay4]

/-- The mask's constant is −∞. -/
theorem mask_eq : (Named.named κ "mask" 0xF149F2CA#32 : Ideal .f32) = (⊥ : EReal) := rfl

/-- A lane is a class's exactly when it is among the first hundred. -/
theorem lane_select (l : Fin 128) (u v : EReal) :
    Scalar.select (IntOp.cmpi CmpIPredicate.slt (BitVec.ofNat 32 l.val) 100#32) u v = if l.val < 100 then u else v := by
  have := l.isLt
  rw [show (100#32 : BitVec 32) = BitVec.ofNat 32 100 from rfl, WordCmp.cmpi_slt_ofNat (by omega) (by omega)]
  by_cases h : l.val < 100
  · rw [decide_eq_true h, if_pos h]; rfl
  · rw [decide_eq_false h, if_neg h]; rfl

/-- The first block's logits, with the bias on the classes' lanes and −∞ on the others. -/
theorem pay5_apply (h : Vec Ideal S1x1024x512 .f32) (u : Vec Ideal S1x512 .f32) (w : Vec Ideal S512x128 .f32) (v : Vec Ideal S1x128 .f32)
    (b : Fin 1024) (l : Fin 128) :
    k1_pay5 h u w v (ix2 b l) = k1_pay4 h u w (ix2 b l) + (if l.val < 100 then v (ix2 0 l) else ⊥) := by
  pointwise [k1_pay5]
  rw [mask_eq, lane_select]

/-- A later block's logits are added. -/
theorem pay6_apply (h : Vec Ideal S1x1024x512 .f32) (u : Vec Ideal S1x512 .f32) (w : Vec Ideal S512x128 .f32) (v : Vec Ideal S1024x128 .f32)
    (b : Fin 1024) (l : Fin 128) : k1_pay6 h u w v (ix2 b l) = v (ix2 b l) + k1_pay4 h u w (ix2 b l) := by
  pointwise [k1_pay6]

/-- The features' columns at a channel and a cell. -/
theorem columns_read (x : Vec Ideal S1024x1024x2x2 .f32) (r : Fin 1024) (h w : Fin 2) (b : Fin 1024) :
    columns x (ix2 r ⟨(h.val * 2 + w.val) * 1024 + b.val, by omega⟩) = x (ix4 b r h w) := by
  pointwise [columns]

/-- The first layer's weights, laid out by channel. -/
theorem weights_read (w : Vec Ideal S4096x4096 .f32) (r : Fin 1024) (p : Fin 4) (h : Fin 4096) :
    shapeCast S1024x16384 w shapeCasts_S4096x4096_S1024x16384 (ix2 r ⟨p.val * 4096 + h.val, by omega⟩)
      = w (ix2 ⟨r.val * 4 + p.val, by omega⟩ h) := by
  pointwise
  congr 1
  congr 1
  apply Fin.ext
  show r.val * 4 + (p.val * 4096 + h.val) / 4096 = r.val * 4 + p.val
  omega

/-- The padding is the word zero as a number. -/
theorem zero_padding : (FloatOps.sitofp .f32 (0#32 : BitVec 32) : Ideal .f32) = (0 : EReal) := by
  show (((0#32 : BitVec 32).toInt : ℝ) : EReal) = 0
  norm_num

/-- The second layer's weights: zero past the hundredth class, -/
theorem wide_read (w : Vec Ideal S4096x100 .f32) (h : Fin 4096) (l : Fin 128) :
    wide w (ix2 h l) = if hl : l.val < 100 then w (ix2 h ⟨l.val, hl⟩) else 0 := by
  pointwise [wide]
  rw [zero_padding]

/-- and its bias likewise. -/
theorem wideBias_read (b : Vec Ideal S100 .f32) (l : Fin 128) :
    wideBias b (ix2 0 l) = if hl : l.val < 100 then b (ix1 ⟨l.val, hl⟩) else 0 := by
  pointwise [wideBias]
  rw [zero_padding]

theorem w1_0 : ∀ t : Fin cfg1.N, win1_0.index t = ![0, t.val / 8] :=
  (by decide +kernel : ∀ t : Fin grid1.N, win1_0.index t = ![0, t.val / 8])
theorem w1_1 : ∀ t : Fin cfg1.N, win1_1.index t = ![0, t.val] :=
  (by decide +kernel : ∀ t : Fin grid1.N, win1_1.index t = ![0, t.val])
theorem w1_2 : ∀ t : Fin cfg1.N, 24 ≤ t.val → win1_2.index t = ![0, t.val % 8] :=
  (by decide +kernel : ∀ t : Fin grid1.N, 24 ≤ t.val →  win1_2.index t = ![0, t.val % 8])
theorem w1_3 : ∀ t : Fin cfg1.N, 24 ≤ t.val → win1_3.index t = ![t.val % 8, 0] :=
  (by decide +kernel : ∀ t : Fin grid1.N, 24 ≤ t.val → win1_3.index t = ![t.val % 8, 0])
theorem w1_4 : ∀ t : Fin cfg1.N, win1_4.index t = ![0, 0] :=
  (by decide +kernel : ∀ t : Fin grid1.N, win1_4.index t = ![0, 0])
theorem w1_5 : ∀ t : Fin cfg1.N, win1_5.index t = ![0, 0] :=
  (by decide +kernel : ∀ t : Fin grid1.N, win1_5.index t = ![0, 0])
theorem w1_6 : win1_6.index (Mlp.pt 3 7) = ![0, 0] := by decide +kernel

variable (V : (c : Dev nD) → Valuation τ sig (Elt Ideal)) (c : Dev nD)

theorem pt_val (p : ℕ) (hp : p < 4) (j : Fin 8) : (Mlp.pt p j).val = 8 * p + j.val := by
  show (8 * p + j.val) % 32 = _
  omega

/-- A feature block: its position's columns. -/
theorem block_0 (p : Fin 4) (j : Fin 8) (r b : Fin 1024) :
    (Mlp.iblk V c 0 (Mlp.pt p.val j) : Vec Ideal S1024x1024 .f32) (ix2 r b) = V c main_v3 (ix2 r ⟨p.val * 1024 + b.val, by omega⟩) := by
  have ht := pt_val p.val p.isLt j
  blk_simp [Mlp.iblk]
  refine congrArg (V c main_v3) ?_
  blk_ext [w1_0 (Mlp.pt p.val j)]

/-- A block of weights: its position's block of hidden units. -/
theorem block_1 (p : Fin 4) (j : Fin 8) (r : Fin 1024) (q : Fin 512) :
    (Mlp.iblk V c 1 (Mlp.pt p.val j) : Vec Ideal S1024x512 .f32) (ix2 r q)
      = V c main_v4 (ix2 r ⟨p.val * 4096 + (j.val * 512 + q.val), by omega⟩) := by
  have ht := pt_val p.val p.isLt j
  blk_simp [Mlp.iblk]
  refine congrArg (V c main_v4) ?_
  blk_ext [w1_1 (Mlp.pt p.val j)]

/-- A block of the first layer's bias, -/
theorem block_2 (j : Fin 8) (q : Fin 512) :
    (Mlp.iblk V c 2 (Mlp.pt 3 j) : Vec Ideal S1x512 .f32) (ix2 0 q) = V c main_v8 (ix2 0 ⟨j.val * 512 + q.val, by omega⟩) := by
  have ht := pt_val 3 (by omega) j
  blk_simp [Mlp.iblk]
  refine congrArg (V c main_v8) ?_
  blk_ext [w1_2 (Mlp.pt 3 j) (by omega)]

/-- of the second layer's weights, -/
theorem block_3 (j : Fin 8) (q : Fin 512) (l : Fin 128) :
    (Mlp.iblk V c 3 (Mlp.pt 3 j) : Vec Ideal S512x128 .f32) (ix2 q l) = V c main_v5 (ix2 ⟨j.val * 512 + q.val, by omega⟩ l) := by
  have ht := pt_val 3 (by omega) j
  blk_simp [Mlp.iblk]
  refine congrArg (V c main_v5) ?_
  blk_ext [w1_3 (Mlp.pt 3 j) (by omega)]

/-- of its bias, -/
theorem block_4 (t : Fin cfg1.N) (l : Fin 128) :
    (Mlp.iblk V c 4 t : Vec Ideal S1x128 .f32) (ix2 0 l) = V c main_v7 (ix2 0 l) := by
  blk_simp [Mlp.iblk]
  refine congrArg (V c main_v7) ?_
  blk_ext [w1_4 t]

/-- and of the classes. -/
theorem block_5 (t : Fin cfg1.N) (b : Fin 1024) :
    (Mlp.iblk V c 5 t : Vec Ideal S1024x1 .i32) (ix2 b 0) = V c main_v9 (ix2 b 0) := by
  blk_simp [Mlp.iblk]
  refine congrArg (V c main_v9) ?_
  blk_ext [w1_5 t]

/-- The result's array of logits is what the last block of hidden units leaves. -/
theorem leftLogits_eq : Mlp.leftLogits V c = (Mlp.acc V c 8 : Vec Ideal S1024x128 .f32) := by
  refine (Mlp.dat V c).arrAt_eq_of_after_last 6 (Mlp.pt 3 7) (by decide +kernel) _ fun j => ?_
  blk_simp
  rw [Mlp.after_6]
  refine congrArg (Mlp.acc V c 8) ?_
  blk_ext [w1_6]

/-- and the loss's. -/
theorem leftLoss_eq : Mlp.leftLoss V c = (Mlp.loss V c : Vec Ideal S1x1 .f32) := by
  refine (Mlp.dat V c).arrAt_eq_of_after_last 7 (Mlp.pt 3 7) (by decide +kernel) _ fun j => ?_
  blk_simp
  rw [Mlp.after_7]
  blk_ext [w1_7]

end Cert.Val

end
-- ==== Proof.Val.Mlp.lean ====
/-
  The kernel's logits and loss: the second kernel's accumulations, opened, are the plain two-layer formula.
-/
module

public import proofs.«01_k».proof.Proof.Val.MlpPay

@[expose] public section

set_option maxRecDepth 16384

noncomputable section

namespace Cert.Val

open Cert.KernelIdeal Cert.KernelIdeal.Gen
open Idealize.ShloMosaic Idealize.ShloMosaic.TcCoe

section

variable (V : (c : Dev nD) → Valuation τ sig (Elt Ideal)) (c : Dev nD)

/-- A position's share of a hidden unit before its bias. -/
def share (X : Vec Ideal S1024x4096 .f32) (W : Vec Ideal S1024x16384 .f32) (b : Fin 1024) (h : Fin 4096) (p : Fin 4) : EReal :=
  ∑ r : Fin 1024, X (ix2 r ⟨p.val * 1024 + b.val, by omega⟩) * W (ix2 r ⟨p.val * 4096 + h.val, by omega⟩)

/-- Unit `q` of block `j`. -/
def unit (j : Fin 8) (q : Fin 512) : Fin 4096 := ⟨j.val * 512 + q.val, by omega⟩

/-- One position more: the plane gains the position's share. -/
theorem hid_step (p : Fin 4) (j : Fin 8) (b : Fin 1024) (q : Fin 512) :
    Mlp.hid V c j (p.val + 1) (ix3 0 b q)
      = (if p.val = 0 then 0 else Mlp.hid V c j p.val (ix3 0 b q)) + share (V c main_v3) (V c main_v4) b (unit j q) p := by
  have hp : ((grid1.coords (Mlp.pt p.val j)) 0).val = p.val := by
    rw [Mlp.coords_0, pt_val p.val p.isLt]; omega
  show Mlp.planeStep (grid1.coords (Mlp.pt p.val j)) (Mlp.iblk V c 0 (Mlp.pt p.val j)) (Mlp.iblk V c 1 (Mlp.pt p.val j)) (Mlp.hid V c j p.val) (ix3 0 b q) = _
  unfold Mlp.planeStep
  rw [hp]
  by_cases h0 : p.val = 0
  · rw [if_pos h0, if_pos h0, zero_add]
    refine (pay2_apply _ _ b q).trans (Finset.sum_congr rfl fun r _ => ?_)
    rw [block_0, block_1]
    rfl
  · rw [if_neg h0, if_neg h0]
    refine (pay3_apply _ _ _ b q).trans (congrArg _ (Finset.sum_congr rfl fun r _ => ?_))
    rw [block_0, block_1]
    rfl

/-- After the last position a plane holds the sum of the positions' shares. -/
theorem hid_whole (j : Fin 8) (b : Fin 1024) (q : Fin 512) :
    Mlp.hid V c j 4 (ix3 0 b q) = ∑ p, share (V c main_v3) (V c main_v4) b (unit j q) p := by
  have h1 := hid_step V c 0 j b q
  have h2 := hid_step V c 1 j b q
  have h3 := hid_step V c 2 j b q
  have h4 := hid_step V c 3 j b q
  rw [if_pos (by rfl), zero_add] at h1
  rw [if_neg (by decide)] at h2 h3 h4
  rw [Fin.sum_univ_four]
  refine h4.trans ?_
  congr 1
  refine h3.trans ?_
  congr 1
  refine h2.trans ?_
  congr 1

/-- A hidden unit. -/
def hiddenUnit (X : Vec Ideal S1024x4096 .f32) (W : Vec Ideal S1024x16384 .f32) (u : Vec Ideal S1x4096 .f32) (b : Fin 1024) (h : Fin 4096) : EReal :=
  max (∑ p, share X W b h p + u (ix2 0 h)) 0

/-- A block of hidden units' share of a logit. -/
theorem block_share (j : Fin 8) (b : Fin 1024) (l : Fin 128) :
    k1_pay4 (Mlp.hid V c j 4) (Mlp.iblk V c 2 (Mlp.pt 3 j)) (Mlp.iblk V c 3 (Mlp.pt 3 j)) (ix2 b l)
      = ∑ q, hiddenUnit (V c main_v3) (V c main_v4) (V c main_v8) b (unit j q) * V c main_v5 (ix2 (unit j q) l) := by
  refine (pay4_apply _ _ _ b l).trans (Finset.sum_congr rfl fun q _ => ?_)
  rw [hid_whole, block_2, block_3]
  rfl

/-- The bias on a class's lane, −∞ on another. -/
def laneBias (v : Vec Ideal S1x128 .f32) (l : Fin 128) : EReal := if l.val < 100 then v (ix2 0 l) else ⊥

/-- The logits after the first blocks of hidden units. -/
theorem acc_apply (b : Fin 1024) (l : Fin 128) : ∀ n : ℕ, n < 8 → Mlp.acc V c (n + 1) (ix2 b l)
    = (∑ j ∈ Finset.range (n + 1), ∑ q, hiddenUnit (V c main_v3) (V c main_v4) (V c main_v8) b (unit (Fin.ofNat 8 j) q) * V c main_v5 (ix2 (unit (Fin.ofNat 8 j) q) l))
      + laneBias (V c main_v7) l := by
  intro n
  induction n with
  | zero =>
    intro _
    show Mlp.logitsStep (grid1.coords (Mlp.pt 3 0)) (Mlp.hid V c 0 4) (Mlp.iblk V c 2 (Mlp.pt 3 0)) (Mlp.iblk V c 3 (Mlp.pt 3 0)) (Mlp.iblk V c 4 (Mlp.pt 3 0)) _ (ix2 b l) = _
    unfold Mlp.logitsStep
    rw [if_pos (by decide +kernel), if_pos (by decide +kernel)]
    refine (pay5_apply _ _ _ _ b l).trans ?_
    rw [block_share, block_4, Finset.sum_range_one]
    rfl
  | succ n ih =>
    intro hn
    have ht := pt_val 3 (by omega) (Fin.ofNat 8 (n + 1))
    have hv : (Fin.ofNat 8 (n + 1)).val = n + 1 := Nat.mod_eq_of_lt hn
    show Mlp.logitsStep (grid1.coords (Mlp.pt 3 (Fin.ofNat 8 (n + 1)))) (Mlp.hid V c (Fin.ofNat 8 (n + 1)) 4) (Mlp.iblk V c 2 (Mlp.pt 3 (Fin.ofNat 8 (n + 1)))) (Mlp.iblk V c 3 (Mlp.pt 3 (Fin.ofNat 8 (n + 1)))) (Mlp.iblk V c 4 (Mlp.pt 3 (Fin.ofNat 8 (n + 1)))) (Mlp.acc V c (n + 1)) (ix2 b l) = _
    unfold Mlp.logitsStep
    rw [if_pos (by rw [Mlp.coords_0]; omega), if_neg (by rw [Mlp.coords_1]; omega)]
    refine (pay6_apply _ _ _ _ b l).trans ?_
    rw [block_share, ih (by omega), Finset.sum_range_succ _ (n + 1)]
    exact add_right_comm _ _ _

/-- The kernel's logit of an image and a lane. -/
theorem leftLogits_apply (b : Fin 1024) (l : Fin 128) :
    (Mlp.leftLogits V c : Vec Ideal S1024x128 .f32) (ix2 b l)
      = (∑ h, hiddenUnit (V c main_v3) (V c main_v4) (V c main_v8) b h * V c main_v5 (ix2 h l)) + laneBias (V c main_v7) l := by
  rw [leftLogits_eq]
  refine (acc_apply V c b l 7 (by omega)).trans ?_
  congr 1
  rw [← Fin.sum_univ_eq_sum_range (fun j => ∑ q, hiddenUnit (V c main_v3) (V c main_v4) (V c main_v8) b (unit (Fin.ofNat 8 j) q) * V c main_v5 (ix2 (unit (Fin.ofNat 8 j) q) l)) 8]
  refine Fin.sum_mul_add_congr fun j q hl => ?_
  have : Fin.ofNat 8 j.val = j := Fin.ext (Nat.mod_eq_of_lt j.isLt)
  rw [this]
  rfl

end

end Cert.Val

end
-- ==== Proof.Val.RefPq.lean ====
/-
  What the reference's quantiser computes: for every cell the nearest code word, the first of them where several are.
-/
module

public import proofs.«01_k».proof.Proof.RI.Run
public import proofs.«01_k».proof.Proof.Val.PqPay
public import Idealize.ShloMosaic.Lib.Routing.Ops

@[expose] public section

set_option maxRecDepth 16384

noncomputable section

namespace Cert.Val

open Cert.ReferenceIdeal Cert.ReferenceIdeal.Gen Cert.ReferenceIdeal.Whole
open Idealize.ShloMosaic

/-- The reference's squared distance. -/
theorem dist_apply (z : Vec Ideal S4096x32x32 .f32) (cb : Vec Ideal S32x256x32 .f32) (n : Fin 4096) (m : Fin 32) (k : Fin 256) :
    Whole.dist z cb (ix3 n m k) = far (fun e => z (ix3 n m e)) fun e => cb (ix3 m k e) := by
  pointwise [Whole.dist, far]

/-- One step of the reference's fold keeps one of its two pairs, the one no later than the other. -/
theorem argmin_step (a b : EReal × BitVec 32) :
    (reducer_argmin_f32_i32 (F := Ideal) a b = a ∧ Upto a b) ∨ (reducer_argmin_f32_i32 (F := Ideal) a b = b ∧ Upto b a) := by
  obtain ⟨u, i⟩ := a
  obtain ⟨v, j⟩ := b
  have e : reducer_argmin_f32_i32 (F := Ideal) (u, i) (v, j)
      = (if u < v then u else v, if u < v ∨ (u = v ∧ i.toInt < j.toInt) then i else j) := by
    simp only [reducer_argmin_f32_i32, FloatOps.cmpf, Ideal.cmp, IntOp.cmpi, IntOp.ori, IntOp.andi, Scalar.select, BitVec.slt]
    by_cases h : u < v
    · simp [h, h.ne]
    · by_cases h' : u = v
      · by_cases h'' : i.toInt < j.toInt <;> simp [h', h'']
      · simp [h, h']
  rw [e]
  rcases lt_trichotomy u v with h | h | h
  · left
    rw [if_pos h, if_pos (Or.inl h)]
    exact ⟨rfl, Or.inl h⟩
  · subst h
    rw [if_neg (lt_irrefl _)]
    by_cases h' : i.toInt < j.toInt
    · left
      rw [if_pos (Or.inr ⟨rfl, h'⟩)]
      exact ⟨rfl, Or.inr ⟨rfl, h'.le⟩⟩
    · right
      rw [if_neg (by rintro (h | h); exacts [lt_irrefl _ h, h' h.2])]
      exact ⟨rfl, Or.inr ⟨rfl, not_lt.1 h'⟩⟩
  · right
    rw [if_neg h.not_gt, if_neg (by rintro (h' | h'); exacts [h.not_gt h', h.ne' h'.1])]
    exact ⟨rfl, Or.inl h⟩

/-- A fold over pairs, at a place where 256 of them meet, finds the first of least value. -/
theorem argReduce_first {s t u : Shape} {axes : List (Fin s.rank)} (f : EReal × BitVec 32 → EReal × BitVec 32 → EReal × BitVec 32)
    (hf : ∀ a b, (f a b = a ∧ Upto a b) ∨ (f a b = b ∧ Upto b a)) (x : s.Idx → EReal) (y : s.Idx → BitVec 32)
    (z : u.Idx → EReal) (w : u.Idx → BitVec 32) (hu : 0 < u.numel) (hz : z (Shape.Idx.first hu) = ⊤) (hw : w (Shape.Idx.first hu) = 0#32)
    (h : s.ReducesTo axes t) (g : t.Idx → EReal × BitVec 32) (hg : g = Host.argReduce (F := Ideal) (φ := .f32) f x y z w h hu)
    (N : t.Idx → BitVec 32) (hN : N = fun j => (g j).2) (j : t.Idx) (e : Fin 256 → s.Idx) (he : ∀ i, h.drop i = j ↔ ∃ k, e k = i)
    (hy : ∀ k, y (e k) = BitVec.ofNat 32 k.val) :
    N j = BitVec.ofNat 32 (pick fun k => x (e k)).val := by
  rw [hN, hg, Ideal.argReduce_eq_reduce2]
  show (Host.reduce2 f x y z w h hu j).2 = _
  rw [Host.reduce2_eq_foldl_fiber, hz, hw]
  refine foldl_pick f hf (fun k => x (e k)) _ fun p => ?_
  unfold Host.argReduceFiber
  simp only [List.mem_map, List.mem_filter, List.mem_finRange, true_and, decide_eq_true_eq]
  constructor
  · rintro ⟨q, hq, rfl⟩
    obtain ⟨k, hk⟩ := (he _).1 hq
    exact ⟨k, by rw [← hk, hy]⟩
  · rintro ⟨k, rfl⟩
    refine ⟨s.rowMajor (e k), ?_, ?_⟩
    · rw [Equiv.symm_apply_apply]
      exact (he _).2 ⟨k, rfl⟩
    · rw [Equiv.symm_apply_apply, hy]

theorem top_at : constant (F := Ideal) S_ .f32 0x7F800000#32 (Shape.Idx.first h_S_) = (⊤ : EReal) := by
  pointwise
  exact ofBits_top

theorem count_at (i : Fin 4096) (j : Fin 32) (k : Fin 256) : iotaInDim S4096x32x256 32 2 (ix3 i j k) = BitVec.ofNat 32 k.val := by
  pointwise

/-- The reference's index is the first place of least distance. -/
theorem nearest_apply (d : Vec Ideal S4096x32x256 .f32) (n : Fin 4096) (m : Fin 32) :
    nearest d (ix2 n m) = BitVec.ofNat 32 (pick fun k : Fin 256 => d (ix3 n m k)).val := by
  have zero_at : constantI S_ 32 0#32 (Shape.Idx.first h_S_) = 0#32 := rfl
  have he : ∀ i : S4096x32x256.Idx, reducesTo_S4096x32x256_S4096x32_d2.drop i = ix2 n m ↔ ∃ k : Fin 256, ix3 n m k = i :=
    fun i => Shape.ReducesTo.fiber_r3_a2 reducesTo_S4096x32x256_S4096x32_d2 (ix2 n m) i
  exact argReduce_first (reducer_argmin_f32_i32 (F := Ideal)) argmin_step d (iotaInDim S4096x32x256 32 2)
    (constant (F := Ideal) S_ .f32 0x7F800000#32) (constantI S_ 32 0#32) h_S_ top_at zero_at
    reducesTo_S4096x32x256_S4096x32_d2 (least d) rfl (nearest d) rfl (ix2 n m) (fun k => ix3 n m k) he (count_at n m)

/-- A small number is not negative, so it is not counted from the end. -/
theorem unwrapped (k : Fin 256) (w : BitVec 32) :
    Scalar.select (IntOp.cmpi .slt (BitVec.ofNat 32 k.val) 0#32) w (BitVec.ofNat 32 k.val) = BitVec.ofNat 32 k.val := by
  have : IntOp.cmpi .slt (BitVec.ofNat 32 k.val) 0#32 = 0#1 := by
    have h := toInt_small k
    have h' : ¬ ((k.val : ℤ) < 0) := by omega
    simp only [IntOp.cmpi, BitVec.slt, h, BitVec.toInt_zero, decide_eq_false h']
    rfl
  rw [this]; rfl

/-- The codebook is read at (sub-space, code word). -/
theorem places_apply (k : Vec Ideal S4096x32 .i32) (n : Fin 4096) (m : Fin 32) (c : Fin 256) (h : k (ix2 n m) = BitVec.ofNat 32 c.val) :
    places (F := Ideal) k (ix3 n m 0) = BitVec.ofNat 32 m.val ∧ places (F := Ideal) k (ix3 n m 1) = BitVec.ofNat 32 c.val := by
  constructor
  · pointwise [places, spaceNo, wordNo]
    exact unwrapped ⟨m.val, by omega⟩ _
  · pointwise [places, spaceNo, wordNo]
    rw [h]
    exact unwrapped c _

/-- A gather whose places name the first two axes and whose slices run along the third. -/
theorem gather_pair {A B C N M : ℕ} {α : Type}
    (wf : GatherDims.WF ⟨3, ![A, B, C]⟩ ⟨3, ![N, M, 2]⟩ ⟨3, ![N, M, C]⟩ [2] [0, 1] [] [0, 1] [] 2 ![1, 1, C])
    (x : (⟨3, ![A, B, C]⟩ : Shape).Idx → α) (idx : IVec ⟨3, ![N, M, 2]⟩ 32) (n : Fin N) (m : Fin M) (c : Fin C) (a : Fin A) (b : Fin B)
    (ha : (idx (ix3 n m 0)).toInt = a.val) (hb : (idx (ix3 n m 1)).toInt = b.val) :
    Host.gather (⟨[2], [0, 1], [], [], [0, 1], 2, ![1, 1, C], wf⟩ : GatherDims ⟨3, ![A, B, C]⟩ ⟨3, ![N, M, 2]⟩ ⟨3, ![N, M, C]⟩) x idx (ix3 n m c)
      = x (ix3 a b c) := by
  let d : GatherDims ⟨3, ![A, B, C]⟩ ⟨3, ![N, M, 2]⟩ ⟨3, ![N, M, C]⟩ := ⟨[2], [0, 1], [], [], [0, 1], 2, ![1, 1, C], wf⟩
  have s0 : ∀ h, d.siIdx (ix3 n m c) ⟨0, h⟩ = ix3 n m 0 := fun h => funext fun e => by fin_cases e <;> rfl
  have s1 : ∀ h, d.siIdx (ix3 n m c) ⟨1, h⟩ = ix3 n m 1 := fun h => funext fun e => by fin_cases e <;> rfl
  unfold Host.gather
  refine congrArg x (funext fun e => Fin.ext ?_)
  show d.start (ix3 n m c) idx e + d.batchCoord (ix3 n m c) e + d.offCoord (ix3 n m c) e = _
  rw [d.batchCoord_eq_zero _ _ (by simp [d]), Nat.add_zero]
  fin_cases e
  · rw [d.offCoord_eq_zero _ _ (by rw [d.mem_sKept]; simp [d])]
    refine (congrArg (fun q => min (idx q).toInt.toNat (A - 1) + 0) (s0 (show 0 < 2 by decide))).trans ?_
    have := a.isLt
    show min (idx (ix3 n m 0)).toInt.toNat (A - 1) + 0 = a.val
    rw [ha, Int.toNat_natCast]; omega
  · rw [d.offCoord_eq_zero _ _ (by rw [d.mem_sKept]; simp [d])]
    refine (congrArg (fun q => min (idx q).toInt.toNat (B - 1) + 0) (s1 (show 1 < 2 by decide))).trans ?_
    have := b.isLt
    show min (idx (ix3 n m 1)).toInt.toNat (B - 1) + 0 = b.val
    rw [hb, Int.toNat_natCast]; omega
  · show 0 + c.val = c.val
    omega

/-- The reference's chosen word at a cell. -/
theorem words_apply (cb : Vec Ideal S32x256x32 .f32) (k : Vec Ideal S4096x32 .i32) (n : Fin 4096) (m : Fin 32) (c : Fin 256) (d : Fin 32)
    (h : k (ix2 n m) = BitVec.ofNat 32 c.val) : words cb k (ix3 n m d) = cb (ix3 m c d) := by
  obtain ⟨h0, h1⟩ := places_apply k n m c h
  refine gather_pair _ cb _ n m d m c ?_ ?_
  · rw [h0]; exact toInt_small ⟨m.val, by omega⟩
  · rw [h1]; exact toInt_small c

/-- The reference's quantised cell: its sub-space's nearest code word. -/
theorem quantised_apply (z : Vec Ideal S4096x32x32 .f32) (cb : Vec Ideal S32x256x32 .f32) (n : Fin 4096) (m d : Fin 32) :
    words cb (nearest (Whole.dist z cb)) (ix3 n m d)
      = cb (ix3 m (code (fun e => z (ix3 n m e)) fun k e => cb (ix3 m k e)) d) := by
  refine words_apply cb _ n m _ d ?_
  rw [nearest_apply]
  simp only [dist_apply]
  rfl

/-- The cell of an image, a height and a width. -/
def cellNo (b : Fin 1024) (h w : Fin 2) : Fin 4096 := ⟨(b.val * 2 + h.val) * 2 + w.val, by omega⟩

theorem cells_apply (x : Vec Ideal S1024x1024x2x2 .f32) (b : Fin 1024) (h w : Fin 2) (m e : Fin 32) :
    cells x (ix3 (cellNo b h w) m e) = x (ix4 b ⟨m.val * 32 + e.val, by omega⟩ h w) := by
  have hc : (cellNo b h w).val = (b.val * 2 + h.val) * 2 + w.val := rfl
  pointwise [cells]
  congr 1
  congr 1 <;> apply Fin.ext <;> simp only [hc] <;> omega

theorem flat_apply (v : Vec Ideal S4096x32x32 .f32) (b : Fin 1024) (m d : Fin 32) (h w : Fin 2) :
    flat v (ix2 b ⟨((m.val * 32 + d.val) * 2 + h.val) * 2 + w.val, by omega⟩) = v (ix3 (cellNo b h w) m d) := by
  pointwise [flat]
  congr 1
  congr 1
  apply Fin.ext
  show b.val * 4 + h.val * 2 + w.val = (b.val * 2 + h.val) * 2 + w.val
  omega

end Cert.Val

end
-- ==== Proof.Val.RefMlp.lean ====
/-
  The reference's two layers at an index.
-/
module

public import proofs.«01_k».proof.Proof.Val.RefPq

@[expose] public section

set_option maxRecDepth 16384

noncomputable section

namespace Cert.Val

open Cert.ReferenceIdeal Cert.ReferenceIdeal.Gen Cert.ReferenceIdeal.Whole
open Idealize.ShloMosaic Idealize.ShloMosaic.TcCoe

/-- A hidden unit of the reference. -/
theorem hidden_apply (f : Vec Ideal S1024x4096 .f32) (W : Vec Ideal S4096x4096 .f32) (u : Vec Ideal S4096 .f32) (b : Fin 1024) (h : Fin 4096) :
    hidden f W u (ix2 b h) = max (∑ k, f (ix2 b k) * W (ix2 k h) + u (ix1 h)) 0 := by
  pointwise [Whole.hidden]

/-- A logit of the reference. -/
theorem logits_apply (h : Vec Ideal S1024x4096 .f32) (W : Vec Ideal S4096x100 .f32) (u : Vec Ideal S100 .f32) (b : Fin 1024) (l : Fin 100) :
    logits h W u (ix2 b l) = ∑ k, h (ix2 b k) * W (ix2 k l) + u (ix1 l) := by
  pointwise [Whole.logits]

end Cert.Val

end
-- ==== Proof.Val.Logits.lean ====
/-
  The kernel's logits are the reference's.
-/
module

public import proofs.«01_k».proof.Proof.Val.Mlp
public import proofs.«01_k».proof.Proof.Val.RefMlp

@[expose] public section

set_option maxRecDepth 16384

noncomputable section

namespace Cert.Val

open Cert.KernelIdeal Cert.KernelIdeal.Gen
open Idealize.ShloMosaic Idealize.ShloMosaic.TcCoe

/-- The reference's features of a batch of images. -/
abbrev features (x : Vec Ideal S1024x1024x2x2 .f32) (cb : Vec Ideal S32x256x32 .f32) : Vec Ideal S1024x4096 .f32 :=
  ReferenceIdeal.Whole.flat (ReferenceIdeal.Whole.words cb (ReferenceIdeal.Whole.nearest (ReferenceIdeal.Whole.dist (ReferenceIdeal.Whole.cells x) cb)))

/-- A feature is the same number on both sides, at the channel and the cell. -/
theorem feature_eq (x : Vec Ideal S1024x1024x2x2 .f32) (cb : Vec Ideal S32x256x32 .f32) (b r : Fin 1024) (p : Fin 4) :
    decoded (columns x) cb (ix2 r ⟨p.val * 1024 + b.val, by omega⟩) = features x cb (ix2 b ⟨r.val * 4 + p.val, by omega⟩) := by
  obtain ⟨m, d, rfl⟩ := row_surj r
  obtain ⟨h, w, rfl⟩ : ∃ h w : Fin 2, p = ⟨h.val * 2 + w.val, by omega⟩ :=
    ⟨⟨p.val / 2, by omega⟩, ⟨p.val % 2, by omega⟩, Fin.ext (by show p.val = p.val / 2 * 2 + p.val % 2; omega)⟩
  have hr : (row m d).val = 32 * m.val + d.val := rfl
  have hk : (⟨(row m d).val * 4 + (h.val * 2 + w.val), by omega⟩ : Fin 4096) = ⟨((m.val * 32 + d.val) * 2 + h.val) * 2 + w.val, by omega⟩ :=
    Fin.ext (by show (32 * m.val + d.val) * 4 + (h.val * 2 + w.val) = ((m.val * 32 + d.val) * 2 + h.val) * 2 + w.val; omega)
  have he : (fun e => columns x (ix2 (row m e) ⟨(h.val * 2 + w.val) * 1024 + b.val, by omega⟩))
      = fun e : Fin 32 => ReferenceIdeal.Whole.cells x (ix3 (cellNo b h w) m e) := by
    funext e
    rw [columns_read, cells_apply]
    exact congrArg (fun q : Fin 1024 => x (ix4 b q h w)) (Fin.ext (by show 32 * m.val + e.val = m.val * 32 + e.val; omega))
  show decoded (columns x) cb (ix2 (row m d) ⟨(h.val * 2 + w.val) * 1024 + b.val, _⟩) = features x cb (ix2 b ⟨(row m d).val * 4 + (h.val * 2 + w.val), _⟩)
  rw [hk, decoded_apply, he]
  exact ((flat_apply _ b m d h w).trans (quantised_apply _ cb _ m d)).symm

/-- A hidden unit is the same number on both sides. -/
theorem hiddenUnit_eq (x : Vec Ideal S1024x1024x2x2 .f32) (cb : Vec Ideal S32x256x32 .f32) (W : Vec Ideal S4096x4096 .f32) (u : Vec Ideal S4096 .f32)
    (b : Fin 1024) (h : Fin 4096) :
    hiddenUnit (decoded (columns x) cb) (shapeCast S1024x16384 W shapeCasts_S4096x4096_S1024x16384) (shapeCast S1x4096 u shapeCasts_S4096_S1x4096) b h
      = ReferenceIdeal.Whole.hidden (features x cb) W u (ix2 b h) := by
  have hu : shapeCast S1x4096 u shapeCasts_S4096_S1x4096 (ix2 0 h) = u (ix1 h) := by pointwise
  have hs : ∑ p, share (decoded (columns x) cb) (shapeCast S1024x16384 W shapeCasts_S4096x4096_S1024x16384) b h p
      = ∑ k, features x cb (ix2 b k) * W (ix2 k h) := by
    unfold share
    rw [Finset.sum_comm]
    refine Fin.sum_mul_add_congr fun r p hl => ?_
    rw [feature_eq, weights_read]
  rw [hidden_apply]
  unfold hiddenUnit
  rw [hs, hu]

variable (m : (ℓ : Loc nD τ sig) → Buf (Elt Ideal) ℓ) (c : Dev nD)

/-- The reference's logits of the arrays a core is launched with. -/
abbrev refLogits : Vec Ideal S1024x100 .f32 :=
  ReferenceIdeal.Whole.logits (ReferenceIdeal.Whole.hidden
      (features (m ((c : Thread nD τ).loc main_arg0)) (m ((c : Thread nD τ).loc main_arg2)))
      (m ((c : Thread nD τ).loc main_arg3)) (m ((c : Thread nD τ).loc main_arg4)))
    (m ((c : Thread nD τ).loc main_arg5)) (m ((c : Thread nD τ).loc main_arg6))

/-- The kernel's lane of a class holds the reference's logit, and a lane of padding −∞. -/
theorem lanes_eq (b : Fin 1024) (l : Fin 128) :
    (Mlp.leftLogits (V7 m (Whole.outs m)) c : Vec Ideal S1024x128 .f32) (ix2 b l)
      = if hl : l.val < 100 then refLogits m c (ix2 b ⟨l.val, hl⟩) else ⊥ := by
  rw [leftLogits_apply, V7_v3, V7_v4, V7_v5, V7_v7, V7_v8]
  unfold laneBias
  by_cases hl : l.val < 100
  · rw [if_pos hl, dif_pos hl, wideBias_read, dif_pos hl]
    refine Eq.trans ?_ (logits_apply _ _ _ b ⟨l.val, hl⟩).symm
    congr 1
    refine Finset.sum_congr rfl fun h _ => ?_
    rw [hiddenUnit_eq, wide_read, dif_pos hl]
  · rw [if_neg hl, dif_neg hl, EReal.add_bot]

/-- The kernel's logits are the reference's. -/
theorem logits_eq : V9 m (Whole.outs m) c main_v11 = refLogits m c := by
  rw [V9_v11]
  funext i
  obtain ⟨b, l, rfl⟩ : ∃ b l, i = ix2 b l := ⟨i 0, i 1, eq_ix2 i⟩
  have e : extractStridedSlice S1024x100 ![0, 0] (Mlp.leftLogits (V7 m (Whole.outs m)) c : Vec Ideal S1024x128 .f32) slices_S1024x128_S1024x100_0_0 (ix2 b l)
      = (Mlp.leftLogits (V7 m (Whole.outs m)) c : Vec Ideal S1024x128 .f32) (ix2 b ⟨l.val, by omega⟩) := by pointwise
  refine e.trans ((lanes_eq m c b _).trans ?_)
  rw [dif_pos l.isLt]

end Cert.Val

end
-- ==== Proof.Val.Row.lean ====
/-
  One row of the loss over extended reals: on real logits the kernel's log-sum-exp over lanes padded with −∞, less the
  picked lane, is the negated log-softmax of the picked class.
-/
module

public import proofs.«01_k».proof.Proof.Val.First

@[expose] public section

noncomputable section

namespace Cert.Val

open Idealize.ShloMosaic

/-! ## Real numbers among the extended ones -/

/-- An extended real that is a real number. -/
def IsReal (x : EReal) : Prop := ∃ r : ℝ, x = (r : EReal)

theorem IsReal.zero : IsReal 0 := ⟨0, rfl⟩
theorem IsReal.add {x y : EReal} : IsReal x → IsReal y → IsReal (x + y) := by
  rintro ⟨r, rfl⟩ ⟨s, rfl⟩; exact ⟨r + s, (EReal.coe_add r s).symm⟩
theorem IsReal.mul {x y : EReal} : IsReal x → IsReal y → IsReal (x * y) := by
  rintro ⟨r, rfl⟩ ⟨s, rfl⟩; exact ⟨r * s, (EReal.coe_mul r s).symm⟩
theorem IsReal.max {x y : EReal} (hx : IsReal x) (hy : IsReal y) : IsReal (max x y) := by
  rcases max_choice x y with h | h <;> rw [h] <;> assumption

theorem IsReal.sum {ι : Type*} (s : Finset ι) (f : ι → EReal) (hf : ∀ i, IsReal (f i)) : IsReal (∑ i ∈ s, f i) := by
  classical
  induction s using Finset.induction_on with
  | empty => exact IsReal.zero
  | insert a s ha ih => rw [Finset.sum_insert ha]; exact (hf a).add ih

/-- A number whose size is below +∞ is real. -/
theorem isReal_of_abs_lt {x : EReal} (h : max x (-x) < ⊤) : IsReal x := by
  induction x using EReal.rec with
  | bot => simp at h
  | coe r => exact ⟨r, rfl⟩
  | top => simp at h

/-- A sum of exponentials of reals is a positive real. -/
theorem sum_exp_pos {n : ℕ} [NeZero n] (a : Fin n → ℝ) : ∃ s : ℝ, 0 < s ∧ ∑ k, Ideal.exp (a k : EReal) = (s : EReal) := by
  classical
  have h : ∀ t : Finset (Fin n), ∑ k ∈ t, Ideal.exp (a k : EReal) = ((∑ k ∈ t, Real.exp (a k) : ℝ) : EReal) := by
    intro t
    induction t using Finset.induction_on with
    | empty => rfl
    | insert b t hb ih => rw [Finset.sum_insert hb, Finset.sum_insert hb, ih, EReal.coe_add]; rfl
  exact ⟨_, Finset.sum_pos (fun k _ => Real.exp_pos _) ⟨0, Finset.mem_univ _⟩, h Finset.univ⟩

/-! ## The padded row -/

/-- A row of 128 lanes whose first hundred are the classes' and whose others are −∞. -/
def lanes (a : Fin 100 → EReal) (k : Fin 128) : EReal := if h : k.val < 100 then a ⟨k.val, h⟩ else ⊥

/-- The padding does not count in the greatest. -/
theorem fold_lanes (a : Fin 100 → EReal) : Finset.univ.fold max ⊥ (lanes a) = Finset.univ.fold max ⊥ a := by
  apply le_antisymm
  · rw [Finset.fold_max_le]
    refine ⟨bot_le, fun k _ => ?_⟩
    unfold lanes
    split
    · rw [Finset.le_fold_max]; exact Or.inr ⟨_, Finset.mem_univ _, le_rfl⟩
    · exact bot_le
  · rw [Finset.fold_max_le]
    refine ⟨bot_le, fun k _ => ?_⟩
    rw [Finset.le_fold_max]
    refine Or.inr ⟨⟨k.val, by omega⟩, Finset.mem_univ _, ?_⟩
    unfold lanes
    rw [dif_pos k.isLt]

/-- A sum over the lanes whose padding adds nothing is the sum over the classes. -/
theorem sum_lanes (f : EReal → EReal) (hf : f ⊥ = 0) (a : Fin 100 → EReal) : ∑ k, f (lanes a k) = ∑ k, f (a k) := by
  have h := Fin.sum_univ_add (a := 100) (b := 28) fun k => f (lanes a k)
  refine h.trans ?_
  have h1 : ∀ k : Fin 100, lanes a (Fin.castAdd 28 k) = a k := fun k => by
    unfold lanes; rw [dif_pos (show (Fin.castAdd 28 k).val < 100 from k.isLt)]; rfl
  have h2 : ∀ k : Fin 28, lanes a (Fin.natAdd 100 k) = ⊥ := fun k => by
    unfold lanes; rw [dif_neg (by simp [Fin.natAdd])]
  simp only [h1, h2, hf, Finset.sum_const_zero, add_zero]

/-- The greatest of finitely many reals is real. -/
theorem fold_max_real (a : Fin 100 → EReal) (ha : ∀ k, IsReal (a k)) : IsReal (Finset.univ.fold max ⊥ a) := by
  obtain ⟨k, -, hk⟩ := Finset.exists_max_image Finset.univ a ⟨0, Finset.mem_univ _⟩
  have : Finset.univ.fold max ⊥ a = a k := le_antisymm
    (by rw [Finset.fold_max_le]; exact ⟨bot_le, fun i hi => hk i hi⟩)
    (by rw [Finset.le_fold_max]; exact Or.inr ⟨k, Finset.mem_univ _, le_rfl⟩)
  rw [this]; exact ha k

/-- The two ways to write a row's loss agree on real logits. -/
theorem row_loss (a : Fin 100 → EReal) (ha : ∀ k, IsReal (a k)) (y : Fin 100) :
    Ideal.log (∑ k, Ideal.exp (lanes a k - Finset.univ.fold max ⊥ (lanes a))) + Finset.univ.fold max ⊥ (lanes a) - a y
      = -(a y - max ⊥ (Finset.univ.fold max ⊥ a) - Ideal.log (∑ k, Ideal.exp (a k - max ⊥ (Finset.univ.fold max ⊥ a)))) := by
  rw [fold_lanes, max_eq_right bot_le]
  obtain ⟨M, hM⟩ := fold_max_real a ha
  rw [hM, sum_lanes (fun x => Ideal.exp (x - M)) (by rfl)]
  choose r hr using ha
  obtain ⟨s, hs, he⟩ := sum_exp_pos fun k => r k - M
  have : ∑ k, Ideal.exp (a k - M) = (s : EReal) := by
    rw [← he]
    refine Finset.sum_congr rfl fun k _ => ?_
    rw [hr k, EReal.coe_sub]
  rw [this, hr y, Ideal.log_coe, if_neg (not_le.2 hs)]
  norm_cast
  ring

end Cert.Val

end
-- ==== Proof.Val.RefLoss.lean ====
/-
  The reference's loss at its one index.
-/
module

public import proofs.«01_k».proof.Proof.Val.RefMlp
public import proofs.«01_k».proof.Proof.Val.Row

@[expose] public section

set_option maxRecDepth 16384

noncomputable section

namespace Cert.Val

open Cert.ReferenceIdeal Cert.ReferenceIdeal.Gen Cert.ReferenceIdeal.Whole
open Idealize.ShloMosaic Idealize.ShloMosaic.TcCoe

/-- A logit less its row's greatest. -/
theorem centred_apply (l : Vec Ideal S1024x100 .f32) (b : Fin 1024) (k : Fin 100) :
    centred l (ix2 b k) = l (ix2 b k) - max ⊥ (Finset.univ.fold max ⊥ fun x => l (ix2 b x)) := by
  pointwise [Whole.centred]
  rw [ofBits_bot]

/-- The log-softmax. -/
theorem logp_apply (l : Vec Ideal S1024x100 .f32) (b : Fin 1024) (k : Fin 100) :
    logp l (ix2 b k) = centred l (ix2 b k) - Ideal.log (∑ x, Ideal.exp (centred l (ix2 b x))) := by
  pointwise [Whole.logp]

/-- The mean of the negations. -/
theorem mean_apply (t : Vec Ideal S1024x1 .f32) :
    mean t ix0 = Ideal.div (∑ b, -t (ix2 b 0)) (Ideal.ofBits .f32 0x44800000#32) := by
  pointwise [Whole.mean]

/-- A class number counts from the start as it is. -/
theorem classNo_apply (y : Vec Ideal S1024 .i32) (b : Fin 1024) (k : Fin 100) (hk : y (ix1 b) = BitVec.ofNat 32 k.val) :
    classNo (F := Ideal) y (ix3 b 0 0) = BitVec.ofNat 32 k.val := by
  pointwise [Whole.classNo]
  rw [hk]
  clear hk; revert k
  decide

/-- It names a class. -/
theorem classOk_apply (i : Vec Ideal S1024x1x1 .i32) (b : Fin 1024) (k : Fin 100) (hk : i (ix3 b 0 0) = BitVec.ofNat 32 k.val) :
    classOk (F := Ideal) i (ix2 b 0) = 1#1 := by
  pointwise [Whole.classOk]
  rw [show (Finset.univ : Finset (Fin 1)) = {0} from rfl, Finset.fold_singleton, hk]
  clear hk; revert k
  decide

/-- A gather along the rows, one place of each. -/
theorem gather_along {N C : ℕ} {α : Type}
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ 32) (n : Fin N) (a : Fin C)
    (ha : (idx (ix3 n 0 0)).toInt = a.val) :
    Host.gather (⟨[], [1], [0], [0], [1], 2, ![1, 1], wf⟩ : GatherDims ⟨2, ![N, C]⟩ ⟨3, ![N, 1, 1]⟩ ⟨2, ![N, 1]⟩) x idx (ix2 n 0)
      = x (ix2 n a) := by
  let d : GatherDims ⟨2, ![N, C]⟩ ⟨3, ![N, 1, 1]⟩ ⟨2, ![N, 1]⟩ := ⟨[], [1], [0], [0], [1], 2, ![1, 1], wf⟩
  have s0 : ∀ h, d.siIdx (ix2 n 0) ⟨0, h⟩ = ix3 n 0 0 := fun h => funext fun e => by fin_cases e <;> rfl
  unfold Host.gather
  refine congrArg x (funext fun e => Fin.ext ?_)
  show d.start (ix2 n 0) idx e + d.batchCoord (ix2 n 0) e + d.offCoord (ix2 n 0) e = _
  rw [d.offCoord_eq_zero _ _ (by rw [d.mem_sKept]; fin_cases e <;> simp [d]), Nat.add_zero]
  fin_cases e
  · rw [d.start_batching _ _ _ (by simp [d]), Nat.zero_add]
    rfl
  · rw [d.batchCoord_eq_zero _ _ (by simp [d]), Nat.add_zero]
    refine (congrArg (fun q => min (idx q).toInt.toNat (C - 1)) (s0 (show 0 < 1 by decide))).trans ?_
    have := a.isLt
    show min (idx (ix3 n 0 0)).toInt.toNat (C - 1) = a.val
    rw [ha, Int.toNat_natCast]; omega

/-- The label's log-probability. -/
theorem taken_apply (p : Vec Ideal S1024x100 .f32) (y : Vec Ideal S1024 .i32) (b : Fin 1024) (k : Fin 100) (hk : y (ix1 b) = BitVec.ofNat 32 k.val) :
    taken p y (ix2 b 0) = p (ix2 b k) := by
  have hc := classNo_apply y b k hk
  pointwise [Whole.taken]
  rw [classOk_apply _ b k hc]
  refine gather_along _ p _ b k ?_
  rw [hc]
  exact StableHlo.Predicate.toInt_ofNat_small _ (by omega)

/-- The reference's loss. -/
theorem loss_apply (l : Vec Ideal S1024x100 .f32) (y : Vec Ideal S1024 .i32) (k : Fin 1024 → Fin 100) (hk : ∀ b, y (ix1 b) = BitVec.ofNat 32 (k b).val) :
    mean (taken (logp l) y) ix0
      = Ideal.div (∑ b, -(l (ix2 b (k b)) - max ⊥ (Finset.univ.fold max ⊥ fun x => l (ix2 b x))
          - Ideal.log (∑ i, Ideal.exp (l (ix2 b i) - max ⊥ (Finset.univ.fold max ⊥ fun x => l (ix2 b x))))))
        (Ideal.ofBits .f32 0x44800000#32) := by
  rw [mean_apply]
  congr 1
  refine Finset.sum_congr rfl fun b _ => ?_
  rw [taken_apply _ y b _ (hk b), logp_apply]
  simp only [centred_apply]

end Cert.Val

end
-- ==== Proof.Val.Loss.lean ====
/-
  The kernel's loss is the reference's, where the labels are class numbers and the parameters are real.
-/
module

public import proofs.«01_k».proof.Proof.Val.Logits
public import proofs.«01_k».proof.Proof.Val.RefLoss

@[expose] public section

set_option maxRecDepth 16384

noncomputable section

namespace Cert.Val

open Cert.KernelIdeal Cert.KernelIdeal.Gen
open Idealize.ShloMosaic Idealize.ShloMosaic.TcCoe

/-- The kernel's mean over the batch of a row's loss. -/
theorem pay7_apply (l : Vec Ideal S1024x128 .f32) (y : Vec Ideal S1024x1 .i32) (k : Fin 1024 → Fin 100)
    (hk : ∀ b, y (ix2 b 0) = BitVec.ofNat 32 (k b).val) :
    k1_pay7 l y (ix2 0 0)
      = Ideal.div (∑ b, (Ideal.log (∑ i, Ideal.exp (l (ix2 b i) - Finset.univ.fold max ⊥ fun x => l (ix2 b x)))
          + (Finset.univ.fold max ⊥ fun x => l (ix2 b x)) - l (ix2 b ⟨(k b).val, by omega⟩)))
        (Ideal.ofBits .f32 0x44800000#32) := by
  pointwise [k1_pay7]
  congr 1
  refine Finset.sum_congr rfl fun b _ => ?_
  rw [Fin.sum_univ_one, ofBits_bot]
  congr 1
  rw [hk b]
  refine Eq.trans (Finset.sum_congr rfl fun i _ => congrArg _ (hot_word (by decide) i (⟨(k b).val, by omega⟩ : Fin 128))) ?_
  exact sum_hot (fun i => l (ix2 b i)) _

variable (m : (ℓ : Loc nD τ sig) → Buf (Elt Ideal) ℓ) (c : Dev nD)

/-- The reference's logits are real where the parameters are. -/
theorem refLogits_real (hcb : ∀ i, IsReal ((m ((c : Thread nD τ).loc main_arg2) : Vec Ideal S32x256x32 .f32) i))
    (hW : ∀ i, IsReal ((m ((c : Thread nD τ).loc main_arg3) : Vec Ideal S4096x4096 .f32) i))
    (hu : ∀ i, IsReal ((m ((c : Thread nD τ).loc main_arg4) : Vec Ideal S4096 .f32) i))
    (hW₂ : ∀ i, IsReal ((m ((c : Thread nD τ).loc main_arg5) : Vec Ideal S4096x100 .f32) i))
    (hu₂ : ∀ i, IsReal ((m ((c : Thread nD τ).loc main_arg6) : Vec Ideal S100 .f32) i))
    (b : Fin 1024) (l : Fin 100) : IsReal (refLogits m c (ix2 b l)) := by
  have hf : ∀ k, IsReal (features (m ((c : Thread nD τ).loc main_arg0)) (m ((c : Thread nD τ).loc main_arg2)) (ix2 b k)) := by
    intro k
    have hr := feature_eq (m ((c : Thread nD τ).loc main_arg0)) (m ((c : Thread nD τ).loc main_arg2)) b ⟨k.val / 4, by omega⟩ ⟨k.val % 4, by omega⟩
    have hk : (⟨k.val / 4 * 4 + k.val % 4, by omega⟩ : Fin 4096) = k := Fin.ext (by show k.val / 4 * 4 + k.val % 4 = k.val; omega)
    obtain ⟨q, d, hq⟩ := row_surj ⟨k.val / 4, by omega⟩
    rw [hq, decoded_apply] at hr
    have := hcb (ix3 q (code (fun e => columns (m ((c : Thread nD τ).loc main_arg0)) (ix2 (row q e) ⟨k.val % 4 * 1024 + b.val, by omega⟩)) fun k e => (m ((c : Thread nD τ).loc main_arg2) : Vec Ideal S32x256x32 .f32) (ix3 q k e)) d)
    rw [← hk]
    rw [← hq] at hr
    exact hr ▸ this
  unfold refLogits
  rw [logits_apply]
  refine (IsReal.sum _ _ fun h => IsReal.mul ?_ (hW₂ _)).add (hu₂ _)
  rw [hidden_apply]
  exact ((IsReal.sum _ _ fun k => (hf k).mul (hW _)).add (hu _)).max IsReal.zero

/-- The kernel's loss is the mean the reference takes. -/
theorem loss_eq (hcb : ∀ i, IsReal ((m ((c : Thread nD τ).loc main_arg2) : Vec Ideal S32x256x32 .f32) i))
    (hW : ∀ i, IsReal ((m ((c : Thread nD τ).loc main_arg3) : Vec Ideal S4096x4096 .f32) i))
    (hu : ∀ i, IsReal ((m ((c : Thread nD τ).loc main_arg4) : Vec Ideal S4096 .f32) i))
    (hW₂ : ∀ i, IsReal ((m ((c : Thread nD τ).loc main_arg5) : Vec Ideal S4096x100 .f32) i))
    (hu₂ : ∀ i, IsReal ((m ((c : Thread nD τ).loc main_arg6) : Vec Ideal S100 .f32) i))
    (k : Fin 1024 → Fin 100) (hk : ∀ b, (m ((c : Thread nD τ).loc main_arg1) : Vec Ideal S1024 .i32) (ix1 b) = BitVec.ofNat 32 (k b).val) :
    V9 m (Whole.outs m) c main_v12
      = ReferenceIdeal.Whole.mean (ReferenceIdeal.Whole.taken (ReferenceIdeal.Whole.logp (refLogits m c)) (m ((c : Thread nD τ).loc main_arg1))) := by
  rw [V9_v12]
  funext i
  obtain rfl : i = ix0 := funext fun e => e.elim0
  have hr := refLogits_real m c hcb hW hu hW₂ hu₂
  have hl : ∀ b, (fun x => (Mlp.acc (V7 m (Whole.outs m)) c 8 : Vec Ideal S1024x128 .f32) (ix2 b x)) = lanes fun x => refLogits m c (ix2 b x) := by
    intro b
    funext x
    rw [← leftLogits_eq]
    exact lanes_eq m c b x
  have hy : ∀ b, (Mlp.iblk (V7 m (Whole.outs m)) c 5 (Mlp.pt 3 7) : Vec Ideal S1024x1 .i32) (ix2 b 0) = BitVec.ofNat 32 (k b).val := by
    intro b
    rw [block_5, V7_v9]
    refine Eq.trans ?_ (hk b)
    pointwise
  have e : shapeCast S_ (Mlp.leftLoss (V7 m (Whole.outs m)) c : Vec Ideal S1x1 .f32) shapeCasts_S1x1_S_ ix0
      = (Mlp.leftLoss (V7 m (Whole.outs m)) c : Vec Ideal S1x1 .f32) (ix2 0 0) := by pointwise
  refine e.trans ?_
  rw [leftLoss_eq]
  unfold Mlp.loss
  refine (pay7_apply _ _ k hy).trans (Eq.trans ?_ (loss_apply _ _ k hk).symm)
  refine congrArg (fun s => Ideal.div s (Ideal.ofBits .f32 0x44800000#32)) (Finset.sum_congr rfl fun b _ => ?_)
  refine Eq.trans ?_ (row_loss (fun x => refLogits m c (ix2 b x)) (fun x => hr b x) (k b))
  rw [← hl b]
  refine congrArg (fun s => _ - s) ((congrFun (hl b) (⟨(k b).val, by omega⟩ : Fin 128)).trans ?_)
  unfold lanes
  rw [dif_pos (k b).isLt]

end Cert.Val

end
-- ==== Proof.Val.Pre.lean ====
/-
  What the precondition says of the arrays: the labels are class numbers, the parameters real numbers.
-/
module

public import proofs.«01_k».proof.Pre_labelled
public import proofs.«01_k».proof.Proof.Gen.Pre_labelled
public import proofs.«01_k».proof.Proof.Val.Row
public import Idealize.ShloMosaic.Lib.StableHlo.Predicate

@[expose] public section

set_option maxRecDepth 16384

noncomputable section

namespace Cert.Val

open Cert.Pre_labelled Cert.Pre_labelled.Gen
open Idealize.ShloMosaic

/-- A number the comparison finds below +∞ in size is real. -/
theorem isReal_of_olt (x : Ideal .f32)
    (h : FloatOps.cmpf .olt (FloatOps.hostAbsf x) (FloatOps.ofBits .f32 0x7F800000#32 : Ideal .f32) = 1#1) : IsReal x := by
  refine isReal_of_abs_lt ?_
  change Ideal.cmp .olt (max x (-x) : EReal) (Ideal.ofBits .f32 0x7F800000#32) = 1#1 at h
  rw [ofBits_top] at h
  simpa [Ideal.cmp, StableHlo.Predicate.ofBool_eq_one_iff] using h

/-- A word the comparisons find between zero and a hundred is a class number. -/
theorem class_of_cmp (y : BitVec 32) (h : IntOp.andi (IntOp.cmpi .sge y 0#32) (IntOp.cmpi .slt y 100#32) = 1#1) :
    ∃ k : Fin 100, y = BitVec.ofNat 32 k.val := by
  have h0 : (0#32).sle y = true ∧ y.slt 100#32 = true := by
    revert h
    show BitVec.ofBool ((0#32).sle y) &&& BitVec.ofBool (y.slt 100#32) = 1#1 → _
    cases (0#32).sle y <;> cases y.slt 100#32 <;> decide
  have h1 : (0 : ℤ) ≤ y.toInt := by simpa [BitVec.sle] using h0.1
  have h2 : y.toInt < 100 := by simpa [BitVec.slt] using h0.2
  refine ⟨⟨y.toInt.toNat, by omega⟩, ?_⟩
  apply BitVec.eq_of_toInt_eq
  rw [StableHlo.Predicate.toInt_ofNat_small _ (by show y.toInt.toNat < _; omega)]
  show y.toInt = (y.toInt.toNat : ℤ)
  omega

variable (x : FVec Ideal S1024x1024x2x2 .f32) (y : IVec S1024 32) (cb : FVec Ideal S32x256x32 .f32) (W : FVec Ideal S4096x4096 .f32)
  (u : FVec Ideal S4096 .f32) (W₂ : FVec Ideal S4096x100 .f32) (u₂ : FVec Ideal S100 .f32)

/-- The precondition's arrays, read. -/
theorem of_labelled
    (h : (fn (F := Ideal) x y cb W u W₂ u₂).1 = (fun _ => 1#1) ∧ (fn (F := Ideal) x y cb W u W₂ u₂).2.1 = (fun _ => 1#1)
      ∧ (fn (F := Ideal) x y cb W u W₂ u₂).2.2.1 = (fun _ => 1#1) ∧ (fn (F := Ideal) x y cb W u W₂ u₂).2.2.2.1 = (fun _ => 1#1)
      ∧ (fn (F := Ideal) x y cb W u W₂ u₂).2.2.2.2.1 = (fun _ => 1#1) ∧ (fn (F := Ideal) x y cb W u W₂ u₂).2.2.2.2.2 = (fun _ => 1#1)) :
    (∃ k : Fin 1024 → Fin 100, ∀ b, y (ix1 b) = BitVec.ofNat 32 (k b).val) ∧ (∀ i, IsReal (cb i)) ∧ (∀ i, IsReal (W i))
      ∧ (∀ i, IsReal (u i)) ∧ (∀ i, IsReal (W₂ i)) ∧ ∀ i, IsReal (u₂ i) := by
  obtain ⟨h1, h2, h3, h4, h5, h6⟩ := h
  have hy : ∀ b : Fin 1024, ∃ k : Fin 100, y (ix1 b) = BitVec.ofNat 32 k.val := fun b => class_of_cmp _ (congrFun h1 (ix1 b))
  choose k hk using hy
  exact ⟨⟨k, hk⟩, fun i => isReal_of_olt _ (congrFun h2 i), fun i => isReal_of_olt _ (congrFun h3 i), fun i => isReal_of_olt _ (congrFun h4 i),
    fun i => isReal_of_olt _ (congrFun h5 i), fun i => isReal_of_olt _ (congrFun h6 i)⟩

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_labelled
public import proofs.«01_k».proof.Proof.Gen.On_the_logits
public import proofs.«01_k».proof.Proof.P.Run
public import proofs.«01_k».proof.Proof.PI.Run
public import proofs.«01_k».proof.Proof.RI.Run
public import proofs.«01_k».proof.Proof.Val.Loss
public import proofs.«01_k».proof.Proof.Val.Pre
public import Idealize.ShloMosaic.Adequacy
public import Idealize.ShloMosaic.Init

@[expose] public section

noncomputable section

namespace Cert.Proof

open Idealize.ShloMosaic Idealize.SL.Sem Cert.Kernel

/-- The kernel's arguments, as the reference's memory holds them too. -/
abbrev Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) : Prop :=
  ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)

/-- The loss the reference computes of the arrays a core of the kernel is launched with. -/
abbrev refLoss (m : (ℓ : Loc KernelIdeal.nD KernelIdeal.τ KernelIdeal.sig) → Buf (Elt Ideal) ℓ) (c : Dev KernelIdeal.nD) : Vec Ideal ReferenceIdeal.S_ .f32 :=
  ReferenceIdeal.Whole.mean (ReferenceIdeal.Whole.taken (ReferenceIdeal.Whole.logp (Cert.Val.refLogits m c))
    (m ((c.tc : Thread KernelIdeal.nD KernelIdeal.τ).loc KernelIdeal.main_arg1)))

/-- The reference's logits are those of the kernel's arguments. -/
theorem reference_logits {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ} (hm : Agree m m') (c : Dev KernelIdeal.nD) :
    ReferenceIdeal.Whole.leftLogits m' c = Cert.Val.refLogits m c := by
  obtain ⟨h0, _, h2, h3, h4, h5, h6⟩ := hm c
  unfold Cert.ReferenceIdeal.Whole.leftLogits
  rw [h0, h2, h3, h4, h5, h6]

/-- Each of the reference's arguments ends as launched. -/
theorem reference_args {m' : (ℓ : Loc ReferenceIdeal.nD ReferenceIdeal.τ ReferenceIdeal.sig) → Buf (Elt Ideal) ℓ}
    {r : PUnit × MemSt ReferenceIdeal.nD ReferenceIdeal.τ ReferenceIdeal.sig (Elt Ideal)} (h : ReferenceIdeal.Whole.Ends m' r) (c : Dev ReferenceIdeal.nD) :
    r.2.mem ((c.tc : Thread ReferenceIdeal.nD ReferenceIdeal.τ).loc ReferenceIdeal.main_arg0) = m' ((c.tc : Thread ReferenceIdeal.nD ReferenceIdeal.τ).loc ReferenceIdeal.main_arg0)
    ∧ r.2.mem ((c.tc : Thread ReferenceIdeal.nD ReferenceIdeal.τ).loc ReferenceIdeal.main_arg1) = m' ((c.tc : Thread ReferenceIdeal.nD ReferenceIdeal.τ).loc ReferenceIdeal.main_arg1)
    ∧ r.2.mem ((c.tc : Thread ReferenceIdeal.nD ReferenceIdeal.τ).loc ReferenceIdeal.main_arg2) = m' ((c.tc : Thread ReferenceIdeal.nD ReferenceIdeal.τ).loc ReferenceIdeal.main_arg2)
    ∧ r.2.mem ((c.tc : Thread ReferenceIdeal.nD ReferenceIdeal.τ).loc ReferenceIdeal.main_arg3) = m' ((c.tc : Thread ReferenceIdeal.nD ReferenceIdeal.τ).loc ReferenceIdeal.main_arg3)
    ∧ r.2.mem ((c.tc : Thread ReferenceIdeal.nD ReferenceIdeal.τ).loc ReferenceIdeal.main_arg4) = m' ((c.tc : Thread ReferenceIdeal.nD ReferenceIdeal.τ).loc ReferenceIdeal.main_arg4)
    ∧ r.2.mem ((c.tc : Thread ReferenceIdeal.nD ReferenceIdeal.τ).loc ReferenceIdeal.main_arg5) = m' ((c.tc : Thread ReferenceIdeal.nD ReferenceIdeal.τ).loc ReferenceIdeal.main_arg5)
    ∧ r.2.mem ((c.tc : Thread ReferenceIdeal.nD ReferenceIdeal.τ).loc ReferenceIdeal.main_arg6) = m' ((c.tc : Thread ReferenceIdeal.nD ReferenceIdeal.τ).loc ReferenceIdeal.main_arg6) :=
  ⟨(h c).2.2 _ (by decide), (h c).2.2 _ (by decide), (h c).2.2 _ (by decide), (h c).2.2 _ (by decide),
    (h c).2.2 _ (by decide), (h c).2.2 _ (by decide), (h c).2.2 _ (by decide)⟩

/-- The reference terminates, its arguments unchanged and its counters at zero. -/
theorem reference_frame : Cert.quiescent_ReferenceIdeal := fun m ρ _ =>
  (θ_run _ _ _).mono (fun _ h => ⟨fun c => reference_args h.1 c, h.2⟩) (Cert.ReferenceIdeal.Whole.run m ρ)

/-- From memories that agree on the arguments the kernel and the reference both run, leave their arguments alone
    and end with equal logits; the loss is not selected. -/
theorem logits_agree : Cert.algebraic_KernelIdeal_ReferenceIdeal_on_the_logits := by
  intro m g m' g' _ hm
  refine ⟨fun c => Cert.Val.refLogits m c, fun c => Cert.KernelIdeal.Gen.V9 m (Cert.KernelIdeal.Whole.outs m) c (Proc.devRef .tc Cert.KernelIdeal.main_v12), ?_, ?_⟩
  · refine (θ_run _ _ _).mono (fun r h c => ⟨fun i _ => ?_, fun i hi => absurd hi (by show ¬ ((0#1 : BitVec 1) = 1#1); decide), ?_⟩)
      (Cert.KernelIdeal.Whole.run m g)
    · exact congrFun ((Cert.KernelIdeal.Whole.read_end m h.1 c _ (by decide)).trans (Cert.Val.logits_eq m c)) i
    · exact Cert.KernelIdeal.Whole.args_end m h.1 c
  · exact (θ_run _ _ _).mono (fun r h c => ⟨fun i _ => congrFun ((h.1 c).1.trans (reference_logits hm c)) i,
      fun i hi => absurd hi (by show ¬ ((0#1 : BitVec 1) = 1#1); decide), reference_args h.1 c⟩)
      (Cert.ReferenceIdeal.Whole.run m' g')

/-- Where moreover the labels are class numbers and the parameters are finite, both results are equal, the loss too. -/
theorem results_agree : Cert.algebraic_KernelIdeal_ReferenceIdeal_pre_labelled := by
  intro m g m' g' hp hm
  refine ⟨fun c => Cert.Val.refLogits m c, fun c => refLoss m c, ?_, ?_⟩
  · refine (θ_run _ _ _).mono (fun r h c => ⟨?_, ?_, Cert.KernelIdeal.Whole.args_end m h.1 c⟩) (Cert.KernelIdeal.Whole.run m g)
    · exact (Cert.KernelIdeal.Whole.read_end m h.1 c _ (by decide)).trans (Cert.Val.logits_eq m c)
    · obtain ⟨⟨k, hk⟩, hcb, hW, hu, hW₂, hu₂⟩ := Cert.Val.of_labelled _ _ _ _ _ _ _ (hp c)
      exact (Cert.KernelIdeal.Whole.read_end m h.1 c _ (by decide)).trans (Cert.Val.loss_eq m c hcb hW hu hW₂ hu₂ k hk)
  · refine (θ_run _ _ _).mono (fun r h c => ⟨(h.1 c).1.trans (reference_logits hm c), (h.1 c).2.1.trans ?_, reference_args h.1 c⟩)
      (Cert.ReferenceIdeal.Whole.run m' g')
    unfold Cert.ReferenceIdeal.Whole.leftLoss
    rw [reference_logits hm c, (hm c).2.1]

theorem claim : Cert.Claim :=
  ⟨Cert.Kernel.Gen.facts, Cert.KernelIdeal.Gen.facts, Cert.ReferenceIdeal.Gen.facts, Cert.Pre_labelled.Gen.facts, Cert.On_the_logits.Gen.facts,
    fun m ρ _ => Cert.Kernel.Whole.frame m ρ, fun m ρ _ => Cert.KernelIdeal.Whole.frame m ρ, fun m ρ _ => Cert.KernelIdeal.Whole.frame m ρ,
    reference_frame, fun m ρ _ => reference_frame m ρ trivial,
    IdealRules.named_const.statement Cert.KernelIdeal.κ "mask" .f32 0xF149F2CA#32 ⊥ rfl, logits_agree, results_agree⟩

end Cert.Proof

end
